-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_served_KernelIdeal [hPre_served_KernelIdeal : Cert.Pre_served_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_served_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_served_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_served_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_served_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_served_ReferenceIdeal [hPre_served_ReferenceIdeal : Cert.Pre_served_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_served_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_served_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_served_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_served_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_served_KernelIdeal [hKernelIdeal : Cert.KernelIdeal.Facts] [hPre_served_KernelIdeal : Cert.Pre_served_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_served_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_served_ReferenceIdeal [hReferenceIdeal : Cert.ReferenceIdeal.Facts] [hPre_served_ReferenceIdeal : Cert.Pre_served_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_served_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_served_KernelIdeal [hKernelIdeal : Cert.KernelIdeal.Facts] [hReferenceIdeal : Cert.ReferenceIdeal.Facts] [hPre_served_KernelIdeal : Cert.Pre_served_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_served_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨4, ![64, 16, 8, 64]⟩ ⟨4, ![2048, 16, 8, 64]⟩ 0 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨4, ![64, 16, 8, 64]⟩ ⟨4, ![2048, 16, 8, 64]⟩ 0 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v37) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_served_KernelIdeal : Cert.Pre_served_KernelIdeal.Facts) (hPre_served_ReferenceIdeal : Cert.Pre_served_ReferenceIdeal.Facts),
    quiescent_Kernel (hKernel := hKernel)
    ∧ quiescent_KernelIdeal (hKernelIdeal := hKernelIdeal)
    ∧ quiescent_KernelIdeal_pre_served_KernelIdeal (hKernelIdeal := hKernelIdeal) (hPre_served_KernelIdeal := hPre_served_KernelIdeal)
    ∧ quiescent_ReferenceIdeal (hReferenceIdeal := hReferenceIdeal)
    ∧ quiescent_ReferenceIdeal_pre_served_ReferenceIdeal (hReferenceIdeal := hReferenceIdeal) (hPre_served_ReferenceIdeal := hPre_served_ReferenceIdeal)
    ∧ preserves_Kernel_KernelIdeal
    ∧ algebraic_KernelIdeal_ReferenceIdeal_pre_served_KernelIdeal (hKernelIdeal := hKernelIdeal) (hReferenceIdeal := hReferenceIdeal) (hPre_served_KernelIdeal := hPre_served_KernelIdeal)
-- ==== Pre_served_KernelIdeal.lean ====
abbrev S8x1x8x64 : Shape := ⟨4, ![8, 1, 8, 64]⟩
abbrev S64x16x8x64 : Shape := ⟨4, ![64, 16, 8, 64]⟩
abbrev S8x64 : Shape := ⟨2, ![8, 64]⟩
abbrev S8 : Shape := ⟨1, ![8]⟩
abbrev S64 : Shape := ⟨1, ![64]⟩
abbrev S1x64 : Shape := ⟨2, ![1, 64]⟩
abbrev S8x1 : Shape := ⟨2, ![8, 1]⟩
abbrev S_ : Shape := ⟨0, ![]⟩

class Facts : Prop where
  bcast_S64_S1x64_1 : S64.BroadcastsInDim S1x64 (![1] : Fin 1 → Fin S1x64.rank)
  bcast_S8_S8x1_0 : S8.BroadcastsInDim S8x1 (![0] : Fin 1 → Fin S8x1.rank)
  bcast_S1x64_S8x64_0_1 : S1x64.BroadcastsInDim S8x64 (![0, 1] : Fin 2 → Fin S8x64.rank)
  bcast_S8x1_S8x64_0_1 : S8x1.BroadcastsInDim S8x64 (![0, 1] : Fin 2 → Fin S8x64.rank)
  bcast_S_S8x1x8x64 : S_.BroadcastsInDim S8x1x8x64 (![] : Fin 0 → Fin S8x1x8x64.rank)
  bcast_S_S64x16x8x64 : S_.BroadcastsInDim S64x16x8x64 (![] : Fin 0 → Fin S64x16x8x64.rank)
  bcast_S_S8x64 : S_.BroadcastsInDim S8x64 (![] : Fin 0 → Fin S8x64.rank)
  bcast_S_S8 : S_.BroadcastsInDim S8 (![] : Fin 0 → Fin S8.rank)

variable [Facts]

def fn_part1 {F : FTy → Type} [FloatOps F] (main_arg4 : IVec S8 32) (main_v8 : IVec S8x1x8x64 1) (main_v11 : IVec S64x16x8x64 1) (main_v18 : IVec S8x64 1) (main_c_2 : IVec S_ 32) : IVec S8x1x8x64 1 × IVec S64x16x8x64 1 × IVec S8x64 1 × IVec S8 1 :=
  let main_v19 : IVec S8 32 := broadcastInDim S8 ![] bcast_S_S8 main_c_2
  let main_v20 : IVec S8 1 := cmpi .sge main_arg4 main_v19
  (main_v8, main_v11, main_v18, main_v20)

def fn {F : FTy → Type} [FloatOps F] (main_arg0 : FVec F S8x1x8x64 .f32) (main_arg1 : FVec F S64x16x8x64 .f32) (main_arg2 : FVec F S64x16x8x64 .f32) (main_arg3 : IVec S8x64 32) (main_arg4 : IVec S8 32) : IVec S8x1x8x64 1 × IVec S64x16x8x64 1 × IVec S8x64 1 × IVec S8 1 :=
  let main_v0 : IVec S64 32 := iotaInDim S64 32 0
  let main_v1 : IVec S1x64 32 := broadcastInDim S1x64 ![1] bcast_S64_S1x64_1 main_v0
  let main_v2 : IVec S8x1 32 := broadcastInDim S8x1 ![0] bcast_S8_S8x1_0 main_arg4
  let main_v3 : IVec S8x64 32 := broadcastInDim S8x64 ![0, 1] bcast_S1x64_S8x64_0_1 main_v1
  let main_v4 : IVec S8x64 32 := broadcastInDim S8x64 ![0, 1] bcast_S8x1_S8x64_0_1 main_v2
  let main_v5 : IVec S8x64 1 := cmpi .slt main_v3 main_v4
  let main_v6 : FVec F S8x1x8x64 .f32 := Host.absf main_arg0
  let main_cst : FVec F S_ .f32 := constant S_ .f32 0x7F800000#32
  let main_v7 : FVec F S8x1x8x64 .f32 := broadcastInDim S8x1x8x64 ![] bcast_S_S8x1x8x64 main_cst
  let main_v8 : IVec S8x1x8x64 1 := cmpf .olt main_v6 main_v7
  let main_v9 : FVec F S64x16x8x64 .f32 := Host.absf main_arg1
  let main_cst_0 : FVec F S_ .f32 := constant S_ .f32 0x7F800000#32
  let main_v10 : FVec F S64x16x8x64 .f32 := broadcastInDim S64x16x8x64 ![] bcast_S_S64x16x8x64 main_cst_0
  let main_v11 : IVec S64x16x8x64 1 := cmpf .olt main_v9 main_v10
  let main_v12 : IVec S8x64 1 := noti main_v5
  let main_c : IVec S_ 32 := constantI S_ 32 0#32
  let main_v13 : IVec S8x64 32 := broadcastInDim S8x64 ![] bcast_S_S8x64 main_c
  let main_v14 : IVec S8x64 1 := cmpi .sge main_arg3 main_v13
  let main_c_1 : IVec S_ 32 := constantI S_ 32 2048#32
  let main_v15 : IVec S8x64 32 := broadcastInDim S8x64 ![] bcast_S_S8x64 main_c_1
  let main_v16 : IVec S8x64 1 := cmpi .slt main_arg3 main_v15
  let main_v17 : IVec S8x64 1 := andi main_v14 main_v16
  let main_v18 : IVec S8x64 1 := ori main_v12 main_v17
  let main_c_2 : IVec S_ 32 := constantI S_ 32 1#32
  fn_part1 (F := F) main_arg4 main_v8 main_v11 main_v18 main_c_2
-- ==== Pre_served_ReferenceIdeal.lean ====
abbrev S8x1x8x64 : Shape := ⟨4, ![8, 1, 8, 64]⟩
abbrev S2048x16x8x64 : Shape := ⟨4, ![2048, 16, 8, 64]⟩
abbrev S8x64 : Shape := ⟨2, ![8, 64]⟩
abbrev S8 : Shape := ⟨1, ![8]⟩
abbrev S64 : Shape := ⟨1, ![64]⟩
abbrev S1x64 : Shape := ⟨2, ![1, 64]⟩
abbrev S8x1 : Shape := ⟨2, ![8, 1]⟩
abbrev S_ : Shape := ⟨0, ![]⟩

class Facts : Prop where
  bcast_S64_S1x64_1 : S64.BroadcastsInDim S1x64 (![1] : Fin 1 → Fin S1x64.rank)
  bcast_S8_S8x1_0 : S8.BroadcastsInDim S8x1 (![0] : Fin 1 → Fin S8x1.rank)
  bcast_S1x64_S8x64_0_1 : S1x64.BroadcastsInDim S8x64 (![0, 1] : Fin 2 → Fin S8x64.rank)
  bcast_S8x1_S8x64_0_1 : S8x1.BroadcastsInDim S8x64 (![0, 1] : Fin 2 → Fin S8x64.rank)
  bcast_S_S8x1x8x64 : S_.BroadcastsInDim S8x1x8x64 (![] : Fin 0 → Fin S8x1x8x64.rank)
  bcast_S_S2048x16x8x64 : S_.BroadcastsInDim S2048x16x8x64 (![] : Fin 0 → Fin S2048x16x8x64.rank)
  bcast_S_S8x64 : S_.BroadcastsInDim S8x64 (![] : Fin 0 → Fin S8x64.rank)
  bcast_S_S8 : S_.BroadcastsInDim S8 (![] : Fin 0 → Fin S8.rank)

variable [Facts]

def fn_part1 {F : FTy → Type} [FloatOps F] (main_arg4 : IVec S8 32) (main_v8 : IVec S8x1x8x64 1) (main_v11 : IVec S2048x16x8x64 1) (main_v18 : IVec S8x64 1) (main_c_2 : IVec S_ 32) : IVec S8x1x8x64 1 × IVec S2048x16x8x64 1 × IVec S8x64 1 × IVec S8 1 :=
  let main_v19 : IVec S8 32 := broadcastInDim S8 ![] bcast_S_S8 main_c_2
  let main_v20 : IVec S8 1 := cmpi .sge main_arg4 main_v19
  (main_v8, main_v11, main_v18, main_v20)

def fn {F : FTy → Type} [FloatOps F] (main_arg0 : FVec F S8x1x8x64 .f32) (main_arg1 : FVec F S2048x16x8x64 .f32) (main_arg2 : FVec F S2048x16x8x64 .f32) (main_arg3 : IVec S8x64 32) (main_arg4 : IVec S8 32) : IVec S8x1x8x64 1 × IVec S2048x16x8x64 1 × IVec S8x64 1 × IVec S8 1 :=
  let main_v0 : IVec S64 32 := iotaInDim S64 32 0
  let main_v1 : IVec S1x64 32 := broadcastInDim S1x64 ![1] bcast_S64_S1x64_1 main_v0
  let main_v2 : IVec S8x1 32 := broadcastInDim S8x1 ![0] bcast_S8_S8x1_0 main_arg4
  let main_v3 : IVec S8x64 32 := broadcastInDim S8x64 ![0, 1] bcast_S1x64_S8x64_0_1 main_v1
  let main_v4 : IVec S8x64 32 := broadcastInDim S8x64 ![0, 1] bcast_S8x1_S8x64_0_1 main_v2
  let main_v5 : IVec S8x64 1 := cmpi .slt main_v3 main_v4
  let main_v6 : FVec F S8x1x8x64 .f32 := Host.absf main_arg0
  let main_cst : FVec F S_ .f32 := constant S_ .f32 0x7F800000#32
  let main_v7 : FVec F S8x1x8x64 .f32 := broadcastInDim S8x1x8x64 ![] bcast_S_S8x1x8x64 main_cst
  let main_v8 : IVec S8x1x8x64 1 := cmpf .olt main_v6 main_v7
  let main_v9 : FVec F S2048x16x8x64 .f32 := Host.absf main_arg1
  let main_cst_0 : FVec F S_ .f32 := constant S_ .f32 0x7F800000#32
  let main_v10 : FVec F S2048x16x8x64 .f32 := broadcastInDim S2048x16x8x64 ![] bcast_S_S2048x16x8x64 main_cst_0
  let main_v11 : IVec S2048x16x8x64 1 := cmpf .olt main_v9 main_v10
  let main_v12 : IVec S8x64 1 := noti main_v5
  let main_c : IVec S_ 32 := constantI S_ 32 0#32
  let main_v13 : IVec S8x64 32 := broadcastInDim S8x64 ![] bcast_S_S8x64 main_c
  let main_v14 : IVec S8x64 1 := cmpi .sge main_arg3 main_v13
  let main_c_1 : IVec S_ 32 := constantI S_ 32 2048#32
  let main_v15 : IVec S8x64 32 := broadcastInDim S8x64 ![] bcast_S_S8x64 main_c_1
  let main_v16 : IVec S8x64 1 := cmpi .slt main_arg3 main_v15
  let main_v17 : IVec S8x64 1 := andi main_v14 main_v16
  let main_v18 : IVec S8x64 1 := ori main_v12 main_v17
  let main_c_2 : IVec S_ 32 := constantI S_ 32 1#32
  fn_part1 (F := F) main_arg4 main_v8 main_v11 main_v18 main_c_2
-- ==== Kernel.lean ====
abbrev S8x1x8x64 : Shape := ⟨4, ![8, 1, 8, 64]⟩
abbrev S64x16x8x64 : Shape := ⟨4, ![64, 16, 8, 64]⟩
abbrev S8x64 : Shape := ⟨2, ![8, 64]⟩
abbrev S8 : Shape := ⟨1, ![8]⟩
abbrev S8x8x128 : Shape := ⟨3, ![8, 8, 128]⟩
abbrev S31x8x8x128 : Shape := ⟨4, ![31, 8, 8, 128]⟩
abbrev S31 : Shape := ⟨1, ![31]⟩
abbrev S_ : Shape := ⟨0, ![]⟩
abbrev S8x64x1 : Shape := ⟨3, ![8, 64, 1]⟩
abbrev S8x1x1 : Shape := ⟨3, ![8, 1, 1]⟩
abbrev S8x64x1024 : Shape := ⟨3, ![8, 64, 1024]⟩
abbrev S8x1024 : Shape := ⟨2, ![8, 1024]⟩
abbrev S8x1x1x64 : Shape := ⟨4, ![8, 1, 1, 64]⟩
abbrev S64x16x1x64 : Shape := ⟨4, ![64, 16, 1, 64]⟩
abbrev S64x16x64 : Shape := ⟨3, ![64, 16, 64]⟩
abbrev S1024x64 : Shape := ⟨2, ![1024, 64]⟩
abbrev S8x1 : Shape := ⟨2, ![8, 1]⟩
abbrev S8x62 : Shape := ⟨2, ![8, 62]⟩
abbrev S8x128 : Shape := ⟨2, ![8, 128]⟩
abbrev S8x1x128 : Shape := ⟨3, ![8, 1, 128]⟩
abbrev S1 : Shape := ⟨1, ![1]⟩
abbrev S1x8x8x128 : Shape := ⟨4, ![1, 8, 8, 128]⟩
abbrev S8x8x1 : Shape := ⟨3, ![8, 8, 1]⟩
abbrev S8x8x64 : Shape := ⟨3, ![8, 8, 64]⟩

abbrev nBuf : Space → Nat
  | .hbm => 6
  | .vmem => 8
  | .smem => 0
  | _ => 0

abbrev bufTy : (tb : Table) → Fin (tcTables nBuf tb) → BufTy
  | .hbm, ⟨0, _⟩ => ⟨S8x1x8x64, .f32⟩
  | .hbm, ⟨1, _⟩ => ⟨S64x16x8x64, .f32⟩
  | .hbm, ⟨2, _⟩ => ⟨S64x16x8x64, .f32⟩
  | .hbm, ⟨3, _⟩ => ⟨S8x64, .i32⟩
  | .hbm, ⟨4, _⟩ => ⟨S8, .i32⟩
  | .hbm, ⟨5, _⟩ => ⟨S8x1x8x64, .f32⟩
  | .local _ .vmem, ⟨0, _⟩ => ⟨S8x1x8x64, .f32⟩
  | .local _ .vmem, ⟨1, _⟩ => ⟨S64x16x8x64, .f32⟩
  | .local _ .vmem, ⟨2, _⟩ => ⟨S64x16x8x64, .f32⟩
  | .local _ .vmem, ⟨3, _⟩ => ⟨S8x64, .i32⟩
  | .local _ .vmem, ⟨4, _⟩ => ⟨S8, .i32⟩
  | .local _ .vmem, ⟨5, _⟩ => ⟨S8x1x8x64, .f32⟩
  | .local _ .vmem, ⟨6, _⟩ => ⟨S8x8x128, .f32⟩
  | .local _ .vmem, ⟨7, _⟩ => ⟨S31x8x8x128, .f32⟩
  | _, _ => ⟨S8x1x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  (ofTc nBuf bufTy 1 68 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let v5 : BitVec 32 := Scalar.remsi v4 c32_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v8 : BitVec 32 := Scalar.addi v2 c2_i32
  let c32_i32_4 : BitVec 32 := 32#32
  let v9 : BitVec 32 := Scalar.remsi v8 c32_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v12 : BitVec 32 := Scalar.addi v2 c3_i32
  let c32_i32_8 : BitVec 32 := 32#32
  let v13 : BitVec 32 := Scalar.remsi v12 c32_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v16 : BitVec 32 := Scalar.addi v2 c4_i32
  let c32_i32_12 : BitVec 32 := 32#32
  let v17 : BitVec 32 := Scalar.remsi v16 c32_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v20 : BitVec 32 := Scalar.addi v2 c5_i32
  let c32_i32_16 : BitVec 32 := 32#32
  let v21 : BitVec 32 := Scalar.remsi v20 c32_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v24 : BitVec 32 := Scalar.addi v2 c6_i32
  let c32_i32_20 : BitVec 32 := 32#32
  let v25 : BitVec 32 := Scalar.remsi v24 c32_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v28 : BitVec 32 := Scalar.addi v2 c7_i32
  let c32_i32_24 : BitVec 32 := 32#32
  let v29 : BitVec 32 := Scalar.remsi v28 c32_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v32 : BitVec 32 := Scalar.addi v2 c8_i32
  let c32_i32_28 : BitVec 32 := 32#32
  let v33 : BitVec 32 := Scalar.remsi v32 c32_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v36 : BitVec 32 := Scalar.addi v2 c9_i32
  let c32_i32_32 : BitVec 32 := 32#32
  let v37 : BitVec 32 := Scalar.remsi v36 c32_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v40 : BitVec 32 := Scalar.addi v2 c10_i32
  let c32_i32_36 : BitVec 32 := 32#32
  let v41 : BitVec 32 := Scalar.remsi v40 c32_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v44 : BitVec 32 := Scalar.addi v2 c11_i32
  let c32_i32_40 : BitVec 32 := 32#32
  let v45 : BitVec 32 := Scalar.remsi v44 c32_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v48 : BitVec 32 := Scalar.addi v2 c12_i32
  let c32_i32_44 : BitVec 32 := 32#32
  let v49 : BitVec 32 := Scalar.remsi v48 c32_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v52 : BitVec 32 := Scalar.addi v2 c13_i32
  let c32_i32_48 : BitVec 32 := 32#32
  let v53 : BitVec 32 := Scalar.remsi v52 c32_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v56 : BitVec 32 := Scalar.addi v2 c14_i32
  let c32_i32_52 : BitVec 32 := 32#32
  let v57 : BitVec 32 := Scalar.remsi v56 c32_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v60 : BitVec 32 := Scalar.addi v2 c15_i32
  let c32_i32_56 : BitVec 32 := 32#32
  let v61 : BitVec 32 := Scalar.remsi v60 c32_i32_56
  let c1_i32_58 : BitVec 32 := 1#32
  let v62 : BitVec 32 := Scalar.muli v61 c1_i32_58
  let v63 : BitVec 32 := Scalar.addi c0_i32_59 v62
  v63.toNat
def k0_dev16 (d0 : Dev nD) : Nat :=
  let c0_i32_63 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v64 : BitVec 32 := Scalar.addi v2 c16_i32
  let c32_i32_60 : BitVec 32 := 32#32
  let v65 : BitVec 32 := Scalar.remsi v64 c32_i32_60
  let c1_i32_62 : BitVec 32 := 1#32
  let v66 : BitVec 32 := Scalar.muli v65 c1_i32_62
  let v67 : BitVec 32 := Scalar.addi c0_i32_63 v66
  v67.toNat
def k0_dev17 (d0 : Dev nD) : Nat :=
  let c0_i32_67 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v68 : BitVec 32 := Scalar.addi v2 c17_i32
  let c32_i32_64 : BitVec 32 := 32#32
  let v69 : BitVec 32 := Scalar.remsi v68 c32_i32_64
  let c1_i32_66 : BitVec 32 := 1#32
  let v70 : BitVec 32 := Scalar.muli v69 c1_i32_66
  let v71 : BitVec 32 := Scalar.addi c0_i32_67 v70
  v71.toNat
def k0_dev18 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v72 : BitVec 32 := Scalar.addi v2 c18_i32
  let c32_i32_68 : BitVec 32 := 32#32
  let v73 : BitVec 32 := Scalar.remsi v72 c32_i32_68
  let c1_i32_70 : BitVec 32 := 1#32
  let v74 : BitVec 32 := Scalar.muli v73 c1_i32_70
  let v75 : BitVec 32 := Scalar.addi c0_i32_71 v74
  v75.toNat
def k0_dev19 (d0 : Dev nD) : Nat :=
  let c0_i32_75 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v76 : BitVec 32 := Scalar.addi v2 c19_i32
  let c32_i32_72 : BitVec 32 := 32#32
  let v77 : BitVec 32 := Scalar.remsi v76 c32_i32_72
  let c1_i32_74 : BitVec 32 := 1#32
  let v78 : BitVec 32 := Scalar.muli v77 c1_i32_74
  let v79 : BitVec 32 := Scalar.addi c0_i32_75 v78
  v79.toNat
def k0_dev20 (d0 : Dev nD) : Nat :=
  let c0_i32_79 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v80 : BitVec 32 := Scalar.addi v2 c20_i32
  let c32_i32_76 : BitVec 32 := 32#32
  let v81 : BitVec 32 := Scalar.remsi v80 c32_i32_76
  let c1_i32_78 : BitVec 32 := 1#32
  let v82 : BitVec 32 := Scalar.muli v81 c1_i32_78
  let v83 : BitVec 32 := Scalar.addi c0_i32_79 v82
  v83.toNat
def k0_dev21 (d0 : Dev nD) : Nat :=
  let c0_i32_83 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v84 : BitVec 32 := Scalar.addi v2 c21_i32
  let c32_i32_80 : BitVec 32 := 32#32
  let v85 : BitVec 32 := Scalar.remsi v84 c32_i32_80
  let c1_i32_82 : BitVec 32 := 1#32
  let v86 : BitVec 32 := Scalar.muli v85 c1_i32_82
  let v87 : BitVec 32 := Scalar.addi c0_i32_83 v86
  v87.toNat
def k0_dev22 (d0 : Dev nD) : Nat :=
  let c0_i32_87 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v88 : BitVec 32 := Scalar.addi v2 c22_i32
  let c32_i32_84 : BitVec 32 := 32#32
  let v89 : BitVec 32 := Scalar.remsi v88 c32_i32_84
  let c1_i32_86 : BitVec 32 := 1#32
  let v90 : BitVec 32 := Scalar.muli v89 c1_i32_86
  let v91 : BitVec 32 := Scalar.addi c0_i32_87 v90
  v91.toNat
def k0_dev23 (d0 : Dev nD) : Nat :=
  let c0_i32_91 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v92 : BitVec 32 := Scalar.addi v2 c23_i32
  let c32_i32_88 : BitVec 32 := 32#32
  let v93 : BitVec 32 := Scalar.remsi v92 c32_i32_88
  let c1_i32_90 : BitVec 32 := 1#32
  let v94 : BitVec 32 := Scalar.muli v93 c1_i32_90
  let v95 : BitVec 32 := Scalar.addi c0_i32_91 v94
  v95.toNat
def k0_dev24 (d0 : Dev nD) : Nat :=
  let c0_i32_95 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v96 : BitVec 32 := Scalar.addi v2 c24_i32
  let c32_i32_92 : BitVec 32 := 32#32
  let v97 : BitVec 32 := Scalar.remsi v96 c32_i32_92
  let c1_i32_94 : BitVec 32 := 1#32
  let v98 : BitVec 32 := Scalar.muli v97 c1_i32_94
  let v99 : BitVec 32 := Scalar.addi c0_i32_95 v98
  v99.toNat
def k0_dev25 (d0 : Dev nD) : Nat :=
  let c0_i32_99 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v100 : BitVec 32 := Scalar.addi v2 c25_i32
  let c32_i32_96 : BitVec 32 := 32#32
  let v101 : BitVec 32 := Scalar.remsi v100 c32_i32_96
  let c1_i32_98 : BitVec 32 := 1#32
  let v102 : BitVec 32 := Scalar.muli v101 c1_i32_98
  let v103 : BitVec 32 := Scalar.addi c0_i32_99 v102
  v103.toNat
def k0_dev26 (d0 : Dev nD) : Nat :=
  let c0_i32_103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v104 : BitVec 32 := Scalar.addi v2 c26_i32
  let c32_i32_100 : BitVec 32 := 32#32
  let v105 : BitVec 32 := Scalar.remsi v104 c32_i32_100
  let c1_i32_102 : BitVec 32 := 1#32
  let v106 : BitVec 32 := Scalar.muli v105 c1_i32_102
  let v107 : BitVec 32 := Scalar.addi c0_i32_103 v106
  v107.toNat
def k0_dev27 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v108 : BitVec 32 := Scalar.addi v2 c27_i32
  let c32_i32_104 : BitVec 32 := 32#32
  let v109 : BitVec 32 := Scalar.remsi v108 c32_i32_104
  let c1_i32_106 : BitVec 32 := 1#32
  let v110 : BitVec 32 := Scalar.muli v109 c1_i32_106
  let v111 : BitVec 32 := Scalar.addi c0_i32_107 v110
  v111.toNat
def k0_dev28 (d0 : Dev nD) : Nat :=
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v112 : BitVec 32 := Scalar.addi v2 c28_i32
  let c32_i32_108 : BitVec 32 := 32#32
  let v113 : BitVec 32 := Scalar.remsi v112 c32_i32_108
  let c1_i32_110 : BitVec 32 := 1#32
  let v114 : BitVec 32 := Scalar.muli v113 c1_i32_110
  let v115 : BitVec 32 := Scalar.addi c0_i32_111 v114
  v115.toNat
def k0_dev29 (d0 : Dev nD) : Nat :=
  let c0_i32_115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v116 : BitVec 32 := Scalar.addi v2 c29_i32
  let c32_i32_112 : BitVec 32 := 32#32
  let v117 : BitVec 32 := Scalar.remsi v116 c32_i32_112
  let c1_i32_114 : BitVec 32 := 1#32
  let v118 : BitVec 32 := Scalar.muli v117 c1_i32_114
  let v119 : BitVec 32 := Scalar.addi c0_i32_115 v118
  v119.toNat
def k0_dev30 (d0 : Dev nD) : Nat :=
  let c0_i32_119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v120 : BitVec 32 := Scalar.addi v2 c30_i32
  let c32_i32_116 : BitVec 32 := 32#32
  let v121 : BitVec 32 := Scalar.remsi v120 c32_i32_116
  let c1_i32_118 : BitVec 32 := 1#32
  let v122 : BitVec 32 := Scalar.muli v121 c1_i32_118
  let v123 : BitVec 32 := Scalar.addi c0_i32_119 v122
  v123.toNat
def k0_dev31 (d0 : Dev nD) : Nat :=
  let c0_i32_123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v124 : BitVec 32 := Scalar.addi v2 c31_i32
  let c32_i32_120 : BitVec 32 := 32#32
  let v125 : BitVec 32 := Scalar.remsi v124 c32_i32_120
  let c1_i32_122 : BitVec 32 := 1#32
  let v126 : BitVec 32 := Scalar.muli v125 c1_i32_122
  let v127 : BitVec 32 := Scalar.addi c0_i32_123 v126
  v127.toNat
def k0_dev32 (d0 : Dev nD) : Nat :=
  let c0_i32_317 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_311 : BitVec 32 := 1#32
  let v403 : BitVec 32 := Scalar.addi v2 c1_i32_311
  let c32_i32_312 : BitVec 32 := 32#32
  let v404 : BitVec 32 := Scalar.remsi v403 c32_i32_312
  let c1_i32_316 : BitVec 32 := 1#32
  let v405 : BitVec 32 := Scalar.muli v404 c1_i32_316
  let v406 : BitVec 32 := Scalar.addi c0_i32_317 v405
  v406.toNat
def k0_dev33 (d0 : Dev nD) : Nat :=
  let c0_i32_327 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_321 : BitVec 32 := 2#32
  let v413 : BitVec 32 := Scalar.addi v2 c2_i32_321
  let c32_i32_322 : BitVec 32 := 32#32
  let v414 : BitVec 32 := Scalar.remsi v413 c32_i32_322
  let c1_i32_326 : BitVec 32 := 1#32
  let v415 : BitVec 32 := Scalar.muli v414 c1_i32_326
  let v416 : BitVec 32 := Scalar.addi c0_i32_327 v415
  v416.toNat
def k0_dev34 (d0 : Dev nD) : Nat :=
  let c0_i32_337 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_331 : BitVec 32 := 3#32
  let v423 : BitVec 32 := Scalar.addi v2 c3_i32_331
  let c32_i32_332 : BitVec 32 := 32#32
  let v424 : BitVec 32 := Scalar.remsi v423 c32_i32_332
  let c1_i32_336 : BitVec 32 := 1#32
  let v425 : BitVec 32 := Scalar.muli v424 c1_i32_336
  let v426 : BitVec 32 := Scalar.addi c0_i32_337 v425
  v426.toNat
def k0_dev35 (d0 : Dev nD) : Nat :=
  let c0_i32_347 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_341 : BitVec 32 := 4#32
  let v433 : BitVec 32 := Scalar.addi v2 c4_i32_341
  let c32_i32_342 : BitVec 32 := 32#32
  let v434 : BitVec 32 := Scalar.remsi v433 c32_i32_342
  let c1_i32_346 : BitVec 32 := 1#32
  let v435 : BitVec 32 := Scalar.muli v434 c1_i32_346
  let v436 : BitVec 32 := Scalar.addi c0_i32_347 v435
  v436.toNat
def k0_dev36 (d0 : Dev nD) : Nat :=
  let c0_i32_357 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_351 : BitVec 32 := 5#32
  let v443 : BitVec 32 := Scalar.addi v2 c5_i32_351
  let c32_i32_352 : BitVec 32 := 32#32
  let v444 : BitVec 32 := Scalar.remsi v443 c32_i32_352
  let c1_i32_356 : BitVec 32 := 1#32
  let v445 : BitVec 32 := Scalar.muli v444 c1_i32_356
  let v446 : BitVec 32 := Scalar.addi c0_i32_357 v445
  v446.toNat
def k0_dev37 (d0 : Dev nD) : Nat :=
  let c0_i32_367 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_361 : BitVec 32 := 6#32
  let v453 : BitVec 32 := Scalar.addi v2 c6_i32_361
  let c32_i32_362 : BitVec 32 := 32#32
  let v454 : BitVec 32 := Scalar.remsi v453 c32_i32_362
  let c1_i32_366 : BitVec 32 := 1#32
  let v455 : BitVec 32 := Scalar.muli v454 c1_i32_366
  let v456 : BitVec 32 := Scalar.addi c0_i32_367 v455
  v456.toNat
def k0_dev38 (d0 : Dev nD) : Nat :=
  let c0_i32_377 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_371 : BitVec 32 := 7#32
  let v463 : BitVec 32 := Scalar.addi v2 c7_i32_371
  let c32_i32_372 : BitVec 32 := 32#32
  let v464 : BitVec 32 := Scalar.remsi v463 c32_i32_372
  let c1_i32_376 : BitVec 32 := 1#32
  let v465 : BitVec 32 := Scalar.muli v464 c1_i32_376
  let v466 : BitVec 32 := Scalar.addi c0_i32_377 v465
  v466.toNat
def k0_dev39 (d0 : Dev nD) : Nat :=
  let c0_i32_387 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_381 : BitVec 32 := 8#32
  let v473 : BitVec 32 := Scalar.addi v2 c8_i32_381
  let c32_i32_382 : BitVec 32 := 32#32
  let v474 : BitVec 32 := Scalar.remsi v473 c32_i32_382
  let c1_i32_386 : BitVec 32 := 1#32
  let v475 : BitVec 32 := Scalar.muli v474 c1_i32_386
  let v476 : BitVec 32 := Scalar.addi c0_i32_387 v475
  v476.toNat
def k0_dev40 (d0 : Dev nD) : Nat :=
  let c0_i32_397 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_391 : BitVec 32 := 9#32
  let v483 : BitVec 32 := Scalar.addi v2 c9_i32_391
  let c32_i32_392 : BitVec 32 := 32#32
  let v484 : BitVec 32 := Scalar.remsi v483 c32_i32_392
  let c1_i32_396 : BitVec 32 := 1#32
  let v485 : BitVec 32 := Scalar.muli v484 c1_i32_396
  let v486 : BitVec 32 := Scalar.addi c0_i32_397 v485
  v486.toNat
def k0_dev41 (d0 : Dev nD) : Nat :=
  let c0_i32_407 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_401 : BitVec 32 := 10#32
  let v493 : BitVec 32 := Scalar.addi v2 c10_i32_401
  let c32_i32_402 : BitVec 32 := 32#32
  let v494 : BitVec 32 := Scalar.remsi v493 c32_i32_402
  let c1_i32_406 : BitVec 32 := 1#32
  let v495 : BitVec 32 := Scalar.muli v494 c1_i32_406
  let v496 : BitVec 32 := Scalar.addi c0_i32_407 v495
  v496.toNat
def k0_dev42 (d0 : Dev nD) : Nat :=
  let c0_i32_417 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_411 : BitVec 32 := 11#32
  let v503 : BitVec 32 := Scalar.addi v2 c11_i32_411
  let c32_i32_412 : BitVec 32 := 32#32
  let v504 : BitVec 32 := Scalar.remsi v503 c32_i32_412
  let c1_i32_416 : BitVec 32 := 1#32
  let v505 : BitVec 32 := Scalar.muli v504 c1_i32_416
  let v506 : BitVec 32 := Scalar.addi c0_i32_417 v505
  v506.toNat
def k0_dev43 (d0 : Dev nD) : Nat :=
  let c0_i32_427 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_421 : BitVec 32 := 12#32
  let v513 : BitVec 32 := Scalar.addi v2 c12_i32_421
  let c32_i32_422 : BitVec 32 := 32#32
  let v514 : BitVec 32 := Scalar.remsi v513 c32_i32_422
  let c1_i32_426 : BitVec 32 := 1#32
  let v515 : BitVec 32 := Scalar.muli v514 c1_i32_426
  let v516 : BitVec 32 := Scalar.addi c0_i32_427 v515
  v516.toNat
def k0_dev44 (d0 : Dev nD) : Nat :=
  let c0_i32_437 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_431 : BitVec 32 := 13#32
  let v523 : BitVec 32 := Scalar.addi v2 c13_i32_431
  let c32_i32_432 : BitVec 32 := 32#32
  let v524 : BitVec 32 := Scalar.remsi v523 c32_i32_432
  let c1_i32_436 : BitVec 32 := 1#32
  let v525 : BitVec 32 := Scalar.muli v524 c1_i32_436
  let v526 : BitVec 32 := Scalar.addi c0_i32_437 v525
  v526.toNat
def k0_dev45 (d0 : Dev nD) : Nat :=
  let c0_i32_447 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_441 : BitVec 32 := 14#32
  let v533 : BitVec 32 := Scalar.addi v2 c14_i32_441
  let c32_i32_442 : BitVec 32 := 32#32
  let v534 : BitVec 32 := Scalar.remsi v533 c32_i32_442
  let c1_i32_446 : BitVec 32 := 1#32
  let v535 : BitVec 32 := Scalar.muli v534 c1_i32_446
  let v536 : BitVec 32 := Scalar.addi c0_i32_447 v535
  v536.toNat
def k0_dev46 (d0 : Dev nD) : Nat :=
  let c0_i32_457 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_451 : BitVec 32 := 15#32
  let v543 : BitVec 32 := Scalar.addi v2 c15_i32_451
  let c32_i32_452 : BitVec 32 := 32#32
  let v544 : BitVec 32 := Scalar.remsi v543 c32_i32_452
  let c1_i32_456 : BitVec 32 := 1#32
  let v545 : BitVec 32 := Scalar.muli v544 c1_i32_456
  let v546 : BitVec 32 := Scalar.addi c0_i32_457 v545
  v546.toNat
def k0_dev47 (d0 : Dev nD) : Nat :=
  let c0_i32_467 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_461 : BitVec 32 := 16#32
  let v553 : BitVec 32 := Scalar.addi v2 c16_i32_461
  let c32_i32_462 : BitVec 32 := 32#32
  let v554 : BitVec 32 := Scalar.remsi v553 c32_i32_462
  let c1_i32_466 : BitVec 32 := 1#32
  let v555 : BitVec 32 := Scalar.muli v554 c1_i32_466
  let v556 : BitVec 32 := Scalar.addi c0_i32_467 v555
  v556.toNat
def k0_dev48 (d0 : Dev nD) : Nat :=
  let c0_i32_477 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_471 : BitVec 32 := 17#32
  let v563 : BitVec 32 := Scalar.addi v2 c17_i32_471
  let c32_i32_472 : BitVec 32 := 32#32
  let v564 : BitVec 32 := Scalar.remsi v563 c32_i32_472
  let c1_i32_476 : BitVec 32 := 1#32
  let v565 : BitVec 32 := Scalar.muli v564 c1_i32_476
  let v566 : BitVec 32 := Scalar.addi c0_i32_477 v565
  v566.toNat
def k0_dev49 (d0 : Dev nD) : Nat :=
  let c0_i32_487 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_481 : BitVec 32 := 18#32
  let v573 : BitVec 32 := Scalar.addi v2 c18_i32_481
  let c32_i32_482 : BitVec 32 := 32#32
  let v574 : BitVec 32 := Scalar.remsi v573 c32_i32_482
  let c1_i32_486 : BitVec 32 := 1#32
  let v575 : BitVec 32 := Scalar.muli v574 c1_i32_486
  let v576 : BitVec 32 := Scalar.addi c0_i32_487 v575
  v576.toNat
def k0_dev50 (d0 : Dev nD) : Nat :=
  let c0_i32_497 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_491 : BitVec 32 := 19#32
  let v583 : BitVec 32 := Scalar.addi v2 c19_i32_491
  let c32_i32_492 : BitVec 32 := 32#32
  let v584 : BitVec 32 := Scalar.remsi v583 c32_i32_492
  let c1_i32_496 : BitVec 32 := 1#32
  let v585 : BitVec 32 := Scalar.muli v584 c1_i32_496
  let v586 : BitVec 32 := Scalar.addi c0_i32_497 v585
  v586.toNat
def k0_dev51 (d0 : Dev nD) : Nat :=
  let c0_i32_507 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_501 : BitVec 32 := 20#32
  let v593 : BitVec 32 := Scalar.addi v2 c20_i32_501
  let c32_i32_502 : BitVec 32 := 32#32
  let v594 : BitVec 32 := Scalar.remsi v593 c32_i32_502
  let c1_i32_506 : BitVec 32 := 1#32
  let v595 : BitVec 32 := Scalar.muli v594 c1_i32_506
  let v596 : BitVec 32 := Scalar.addi c0_i32_507 v595
  v596.toNat
def k0_dev52 (d0 : Dev nD) : Nat :=
  let c0_i32_517 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_511 : BitVec 32 := 21#32
  let v603 : BitVec 32 := Scalar.addi v2 c21_i32_511
  let c32_i32_512 : BitVec 32 := 32#32
  let v604 : BitVec 32 := Scalar.remsi v603 c32_i32_512
  let c1_i32_516 : BitVec 32 := 1#32
  let v605 : BitVec 32 := Scalar.muli v604 c1_i32_516
  let v606 : BitVec 32 := Scalar.addi c0_i32_517 v605
  v606.toNat
def k0_dev53 (d0 : Dev nD) : Nat :=
  let c0_i32_527 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_521 : BitVec 32 := 22#32
  let v613 : BitVec 32 := Scalar.addi v2 c22_i32_521
  let c32_i32_522 : BitVec 32 := 32#32
  let v614 : BitVec 32 := Scalar.remsi v613 c32_i32_522
  let c1_i32_526 : BitVec 32 := 1#32
  let v615 : BitVec 32 := Scalar.muli v614 c1_i32_526
  let v616 : BitVec 32 := Scalar.addi c0_i32_527 v615
  v616.toNat
def k0_dev54 (d0 : Dev nD) : Nat :=
  let c0_i32_537 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_531 : BitVec 32 := 23#32
  let v623 : BitVec 32 := Scalar.addi v2 c23_i32_531
  let c32_i32_532 : BitVec 32 := 32#32
  let v624 : BitVec 32 := Scalar.remsi v623 c32_i32_532
  let c1_i32_536 : BitVec 32 := 1#32
  let v625 : BitVec 32 := Scalar.muli v624 c1_i32_536
  let v626 : BitVec 32 := Scalar.addi c0_i32_537 v625
  v626.toNat
def k0_dev55 (d0 : Dev nD) : Nat :=
  let c0_i32_547 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_541 : BitVec 32 := 24#32
  let v633 : BitVec 32 := Scalar.addi v2 c24_i32_541
  let c32_i32_542 : BitVec 32 := 32#32
  let v634 : BitVec 32 := Scalar.remsi v633 c32_i32_542
  let c1_i32_546 : BitVec 32 := 1#32
  let v635 : BitVec 32 := Scalar.muli v634 c1_i32_546
  let v636 : BitVec 32 := Scalar.addi c0_i32_547 v635
  v636.toNat
def k0_dev56 (d0 : Dev nD) : Nat :=
  let c0_i32_557 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_551 : BitVec 32 := 25#32
  let v643 : BitVec 32 := Scalar.addi v2 c25_i32_551
  let c32_i32_552 : BitVec 32 := 32#32
  let v644 : BitVec 32 := Scalar.remsi v643 c32_i32_552
  let c1_i32_556 : BitVec 32 := 1#32
  let v645 : BitVec 32 := Scalar.muli v644 c1_i32_556
  let v646 : BitVec 32 := Scalar.addi c0_i32_557 v645
  v646.toNat
def k0_dev57 (d0 : Dev nD) : Nat :=
  let c0_i32_567 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_561 : BitVec 32 := 26#32
  let v653 : BitVec 32 := Scalar.addi v2 c26_i32_561
  let c32_i32_562 : BitVec 32 := 32#32
  let v654 : BitVec 32 := Scalar.remsi v653 c32_i32_562
  let c1_i32_566 : BitVec 32 := 1#32
  let v655 : BitVec 32 := Scalar.muli v654 c1_i32_566
  let v656 : BitVec 32 := Scalar.addi c0_i32_567 v655
  v656.toNat
def k0_dev58 (d0 : Dev nD) : Nat :=
  let c0_i32_577 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_571 : BitVec 32 := 27#32
  let v663 : BitVec 32 := Scalar.addi v2 c27_i32_571
  let c32_i32_572 : BitVec 32 := 32#32
  let v664 : BitVec 32 := Scalar.remsi v663 c32_i32_572
  let c1_i32_576 : BitVec 32 := 1#32
  let v665 : BitVec 32 := Scalar.muli v664 c1_i32_576
  let v666 : BitVec 32 := Scalar.addi c0_i32_577 v665
  v666.toNat
def k0_dev59 (d0 : Dev nD) : Nat :=
  let c0_i32_587 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_581 : BitVec 32 := 28#32
  let v673 : BitVec 32 := Scalar.addi v2 c28_i32_581
  let c32_i32_582 : BitVec 32 := 32#32
  let v674 : BitVec 32 := Scalar.remsi v673 c32_i32_582
  let c1_i32_586 : BitVec 32 := 1#32
  let v675 : BitVec 32 := Scalar.muli v674 c1_i32_586
  let v676 : BitVec 32 := Scalar.addi c0_i32_587 v675
  v676.toNat
def k0_dev60 (d0 : Dev nD) : Nat :=
  let c0_i32_597 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_591 : BitVec 32 := 29#32
  let v683 : BitVec 32 := Scalar.addi v2 c29_i32_591
  let c32_i32_592 : BitVec 32 := 32#32
  let v684 : BitVec 32 := Scalar.remsi v683 c32_i32_592
  let c1_i32_596 : BitVec 32 := 1#32
  let v685 : BitVec 32 := Scalar.muli v684 c1_i32_596
  let v686 : BitVec 32 := Scalar.addi c0_i32_597 v685
  v686.toNat
def k0_dev61 (d0 : Dev nD) : Nat :=
  let c0_i32_607 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_601 : BitVec 32 := 30#32
  let v693 : BitVec 32 := Scalar.addi v2 c30_i32_601
  let c32_i32_602 : BitVec 32 := 32#32
  let v694 : BitVec 32 := Scalar.remsi v693 c32_i32_602
  let c1_i32_606 : BitVec 32 := 1#32
  let v695 : BitVec 32 := Scalar.muli v694 c1_i32_606
  let v696 : BitVec 32 := Scalar.addi c0_i32_607 v695
  v696.toNat
def k0_dev62 (d0 : Dev nD) : Nat :=
  let c0_i32_617 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_611 : BitVec 32 := 31#32
  let v703 : BitVec 32 := Scalar.addi v2 c31_i32_611
  let c32_i32_612 : BitVec 32 := 32#32
  let v704 : BitVec 32 := Scalar.remsi v703 c32_i32_612
  let c1_i32_616 : BitVec 32 := 1#32
  let v705 : BitVec 32 := Scalar.muli v704 c1_i32_616
  let v706 : BitVec 32 := Scalar.addi c0_i32_617 v705
  v706.toNat
abbrev stage0_0 : Fin 1 → Memref sig .tc .vmem S8x1x8x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x16x8x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x16x8x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x64 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x1x8x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S8x1x8x64 : Shape := ⟨4, ![8, 1, 8, 64]⟩
abbrev S2048x16x8x64 : Shape := ⟨4, ![2048, 16, 8, 64]⟩
abbrev S8x64 : Shape := ⟨2, ![8, 64]⟩
abbrev S8 : Shape := ⟨1, ![8]⟩
abbrev S_ : Shape := ⟨0, ![]⟩
abbrev S8x64x1 : Shape := ⟨3, ![8, 64, 1]⟩
abbrev S8x64x16x8x64 : Shape := ⟨5, ![8, 64, 16, 8, 64]⟩
abbrev S8x1024x8x64 : Shape := ⟨4, ![8, 1024, 8, 64]⟩
abbrev S8x8x1x1024 : Shape := ⟨4, ![8, 8, 1, 1024]⟩
abbrev S1024 : Shape := ⟨1, ![1024]⟩
abbrev S1x1x1x1024 : Shape := ⟨4, ![1, 1, 1, 1024]⟩
abbrev S8x1x1x1 : Shape := ⟨4, ![8, 1, 1, 1]⟩
abbrev S8x1x1x1024 : Shape := ⟨4, ![8, 1, 1, 1024]⟩
abbrev S8x8x1 : Shape := ⟨3, ![8, 8, 1]⟩
abbrev S8x8x1x1 : Shape := ⟨4, ![8, 8, 1, 1]⟩
abbrev S8x8x64x1 : Shape := ⟨4, ![8, 8, 64, 1]⟩

abbrev nBuf : Space → Nat
  | .hbm => 71
  | .vmem => 0
  | .smem => 0
  | _ => 0

abbrev bufTy : (tb : Table) → Fin (tcTables nBuf tb) → BufTy
  | .hbm, ⟨0, _⟩ => ⟨S8x1x8x64, .f32⟩
  | .hbm, ⟨1, _⟩ => ⟨S2048x16x8x64, .f32⟩
  | .hbm, ⟨2, _⟩ => ⟨S2048x16x8x64, .f32⟩
  | .hbm, ⟨3, _⟩ => ⟨S8x64, .i32⟩
  | .hbm, ⟨4, _⟩ => ⟨S8, .i32⟩
  | .hbm, ⟨5, _⟩ => ⟨S_, .i32⟩
  | .hbm, ⟨6, _⟩ => ⟨S8x64, .i32⟩
  | .hbm, ⟨7, _⟩ => ⟨S8x64, .i1⟩
  | .hbm, ⟨8, _⟩ => ⟨S_, .i32⟩
  | .hbm, ⟨9, _⟩ => ⟨S8x64, .i32⟩
  | .hbm, ⟨10, _⟩ => ⟨S8x64, .i32⟩
  | .hbm, ⟨11, _⟩ => ⟨S8x64, .i32⟩
  | .hbm, ⟨12, _⟩ => ⟨S8x64x1, .i32⟩
  | .hbm, ⟨13, _⟩ => ⟨S8x64x16x8x64, .f32⟩
  | .hbm, ⟨14, _⟩ => ⟨S8x1024x8x64, .f32⟩
  | .hbm, ⟨15, _⟩ => ⟨S_, .i32⟩
  | .hbm, ⟨16, _⟩ => ⟨S8x64, .i32⟩
  | .hbm, ⟨17, _⟩ => ⟨S8x64, .i1⟩
  | .hbm, ⟨18, _⟩ => ⟨S_, .i32⟩
  | .hbm, ⟨19, _⟩ => ⟨S8x64, .i32⟩
  | .hbm, ⟨20, _⟩ => ⟨S8x64, .i32⟩
  | .hbm, ⟨21, _⟩ => ⟨S8x64, .i32⟩
  | .hbm, ⟨22, _⟩ => ⟨S8x64x1, .i32⟩
  | .hbm, ⟨23, _⟩ => ⟨S8x64x16x8x64, .f32⟩
  | .hbm, ⟨24, _⟩ => ⟨S8x1024x8x64, .f32⟩
  | .hbm, ⟨25, _⟩ => ⟨S8x8x1x1024, .f32⟩
  | .hbm, ⟨26, _⟩ => ⟨S_, .f32⟩
  | .hbm, ⟨27, _⟩ => ⟨S8x8x1x1024, .f32⟩
  | .hbm, ⟨28, _⟩ => ⟨S8x8x1x1024, .f32⟩
  | .hbm, ⟨29, _⟩ => ⟨S1024, .i32⟩
  | .hbm, ⟨30, _⟩ => ⟨S_, .i32⟩
  | .hbm, ⟨31, _⟩ => ⟨S_, .i32⟩
  | .hbm, ⟨32, _⟩ => ⟨S1024, .i32⟩
  | .hbm, ⟨33, _⟩ => ⟨S1024, .i32⟩
  | .hbm, ⟨34, _⟩ => ⟨S1024, .i32⟩
  | .hbm, ⟨35, _⟩ => ⟨S_, .i32⟩
  | .hbm, ⟨36, _⟩ => ⟨S1024, .i32⟩
  | .hbm, ⟨37, _⟩ => ⟨S1024, .i1⟩
  | .hbm, ⟨38, _⟩ => ⟨S1024, .i32⟩
  | .hbm, ⟨39, _⟩ => ⟨S1024, .i32⟩
  | .hbm, ⟨40, _⟩ => ⟨S_, .i32⟩
  | .hbm, ⟨41, _⟩ => ⟨S1024, .i32⟩
  | .hbm, ⟨42, _⟩ => ⟨S1024, .i1⟩
  | .hbm, ⟨43, _⟩ => ⟨S1024, .i1⟩
  | .hbm, ⟨44, _⟩ => ⟨S_, .i32⟩
  | .hbm, ⟨45, _⟩ => ⟨S1024, .i32⟩
  | .hbm, ⟨46, _⟩ => ⟨S1024, .i32⟩
  | .hbm, ⟨47, _⟩ => ⟨S1024, .i32⟩
  | .hbm, ⟨48, _⟩ => ⟨S1x1x1x1024, .i32⟩
  | .hbm, ⟨49, _⟩ => ⟨S8x1x1x1, .i32⟩
  | .hbm, ⟨50, _⟩ => ⟨S8x1x1x1024, .i32⟩
  | .hbm, ⟨51, _⟩ => ⟨S8x1x1x1024, .i32⟩
  | .hbm, ⟨52, _⟩ => ⟨S8x1x1x1024, .i1⟩
  | .hbm, ⟨53, _⟩ => ⟨S_, .f32⟩
  | .hbm, ⟨54, _⟩ => ⟨S_, .f32⟩
  | .hbm, ⟨55, _⟩ => ⟨S8x8x1x1024, .i1⟩
  | .hbm, ⟨56, _⟩ => ⟨S8x8x1x1024, .f32⟩
  | .hbm, ⟨57, _⟩ => ⟨S8x8x1x1024, .f32⟩
  | .hbm, ⟨58, _⟩ => ⟨S_, .f32⟩
  | .hbm, ⟨59, _⟩ => ⟨S8x8x1, .f32⟩
  | .hbm, ⟨60, _⟩ => ⟨S8x8x1x1, .f32⟩
  | .hbm, ⟨61, _⟩ => ⟨S8x8x1x1024, .f32⟩
  | .hbm, ⟨62, _⟩ => ⟨S8x8x1x1024, .f32⟩
  | .hbm, ⟨63, _⟩ => ⟨S8x8x1x1024, .f32⟩
  | .hbm, ⟨64, _⟩ => ⟨S_, .f32⟩
  | .hbm, ⟨65, _⟩ => ⟨S8x8x1, .f32⟩
  | .hbm, ⟨66, _⟩ => ⟨S8x8x1x1, .f32⟩
  | .hbm, ⟨67, _⟩ => ⟨S8x8x1x1024, .f32⟩
  | .hbm, ⟨68, _⟩ => ⟨S8x8x1x1024, .f32⟩
  | .hbm, ⟨69, _⟩ => ⟨S8x8x64x1, .f32⟩
  | .hbm, ⟨70, _⟩ => ⟨S8x1x8x64, .f32⟩
  | _, _ => ⟨S8x1x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_3 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_call0_v5 : Ref sig .tc := ⟨.hbm, 36, rfl⟩
abbrev main_call0_v6 : Ref sig .tc := ⟨.hbm, 37, rfl⟩
abbrev main_call0_v7 : Ref sig .tc := ⟨.hbm, 38, rfl⟩
abbrev main_call0_v8 : Ref sig .tc := ⟨.hbm, 39, rfl⟩
abbrev main_call0_c : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_c_0 : Ref sig .tc := ⟨.hbm, 44, rfl⟩
abbrev main_call0_v12 : Ref sig .tc := ⟨.hbm, 45, rfl⟩
abbrev main_call0_v13 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_cst_4 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v26 : Ref sig .tc := ⟨.hbm, 57, rfl⟩
abbrev main_cst_5 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_cst_6 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩

abbrev nD : Nat := 1
abbrev τ : Topo := Topo.v7x

variable {F : FTy → Type} [FloatOps F]
-- ==== Proof.KernelIdeal.Ring.lean ====
/-
The exchange of the paged-attention kernel, written down before it is executed.

32 devices. Device `c` reaches the peer `s + 1` places further round the mesh, `fwd c s`, through its slot `s`
(`s : Fin 31`); `bwd c s` is the device that reaches `c` through slot `s`.

* Entry barrier. `c` adds one to the barrier semaphore of each `fwd c s`, and waits for 31 on its own. Device `p`'s
  barrier has 31 duties; duty `t` is paid by `fwd p t` and hands `p` slot `t` of the landing buffer of `fwd p t`, which
  is what `p` needs in order to send there.
* Transfers. `c` sends its own block of partial results to slot `s` of `fwd c s`, for all 31 `s`, each transfer on its
  own pair of DMA semaphores. The source block is lent 31 times, a share to each transfer.
* The receive semaphore `s` of `c` pays slot `s` of `c`'s landing buffer, holding the block of `bwd c s`; the send
  semaphore `s` pays the share of the source back.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.ShareLeaves
public import Idealize.ShloMosaic.Lib.Tactic

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

/-- The exchange's own copy of the rounds algebra: its duties are named by the 31 slots. -/
abbrev UB : Type := URounds (GSem nD τ sig) (Fin 31)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every semaphore counter zero. -/
def s₀ : MemSt nD τ sig (Elt F) := ⟨m, fun _ => 0, ρ⟩

/-! ## The mesh -/

set_option backward.proofsInPublic true in
/-- The peer `s + 1` places further on. -/
def fwd (c : Dev nD) (s : Fin 31) : Dev nD := ⟨(c.val + (s.val + 1)) % 32, Nat.mod_lt _ (by decide)⟩
set_option backward.proofsInPublic true in
/-- The peer `s + 1` places back. -/
def bwd (c : Dev nD) (s : Fin 31) : Dev nD := ⟨(c.val + (31 - s.val)) % 32, Nat.mod_lt _ (by decide)⟩

theorem dev_lt (c : Dev nD) : c.val < 32 := c.isLt

theorem fwd_bwd (c : Dev nD) (s : Fin 31) : fwd (bwd c s) s = c := by
  have := dev_lt c; have := s.isLt
  refine Fin.ext ?_; simp only [fwd, bwd]; omega
theorem bwd_fwd (c : Dev nD) (s : Fin 31) : bwd (fwd c s) s = c := by
  have := dev_lt c; have := s.isLt
  refine Fin.ext ?_; simp only [fwd, bwd]; omega
theorem fwd_fwd_rev (c : Dev nD) (s : Fin 31) : fwd (fwd c s) s.rev = c := by
  have := dev_lt c; have := s.isLt
  refine Fin.ext ?_; simp only [fwd, Fin.val_rev]; omega
/-- Going `s + 1` places forward, as a permutation of the devices. -/
def shift (s : Fin 31) : Dev nD ≃ Dev nD := ⟨fun c => fwd c s, fun c => bwd c s, fun c => bwd_fwd c s, fun c => fwd_bwd c s⟩

/-! ## Prefixes and suffixes of the 31 slots -/

/-- The slots from `n` on. -/
def ge (n : ℕ) : Finset (Fin 31) := Finset.univ.filter fun s => n ≤ s.val
/-- The slots before `n`. -/
def lt (n : ℕ) : Finset (Fin 31) := Finset.univ.filter fun s => s.val < n

theorem mem_ge {n : ℕ} {s : Fin 31} : s ∈ ge n ↔ n ≤ s.val := by simp [ge]
theorem mem_lt {n : ℕ} {s : Fin 31} : s ∈ lt n ↔ s.val < n := by simp [lt]
theorem ge_zero : ge 0 = Finset.univ := Finset.ext fun s => by simp [mem_ge]
theorem ge_last : ge 31 = ∅ := Finset.ext fun s => by simp [mem_ge]
theorem lt_zero : lt 0 = ∅ := Finset.ext fun s => by simp [mem_lt]
theorem lt_last : lt 31 = Finset.univ := Finset.ext fun s => by simp [mem_lt]
theorem ge_step (s : Fin 31) : ge s.val = insert s (ge (s.val + 1)) := by
  ext t; simp only [Finset.mem_insert, mem_ge, Fin.ext_iff]; omega
theorem lt_step (s : Fin 31) : lt (s.val + 1) = insert s (lt s.val) := by
  ext t; simp only [Finset.mem_insert, mem_lt, Fin.ext_iff]; omega
theorem not_mem_ge (s : Fin 31) : s ∉ ge (s.val + 1) := by rw [mem_ge]; omega
theorem not_mem_lt (s : Fin 31) : s ∉ lt s.val := by rw [mem_lt]; omega

theorem bigSep_ge {M : Type} [URA M] (Φ : Fin 31 → sProp M) (s : Fin 31) : bigSep (ge s.val) Φ = iprop(Φ s ∗ bigSep (ge (s.val + 1)) Φ) := by
  rw [ge_step s, bigSep_insert (not_mem_ge s)]; rfl
theorem bigSep_lt {M : Type} [URA M] (Φ : Fin 31 → sProp M) (s : Fin 31) : bigSep (lt (s.val + 1)) Φ = iprop(Φ s ∗ bigSep (lt s.val) Φ) := by
  rw [lt_step s, bigSep_insert (not_mem_lt s)]; rfl

/-! ## Buffers and semaphores -/

abbrev qM : Memref sig .tc .vmem S8x1x8x64 .f32 := Memref.whole cc0_stg0_0
abbrev kM : Memref sig .tc .vmem S64x16x8x64 .f32 := Memref.whole cc0_stg1_0
abbrev vM : Memref sig .tc .vmem S64x16x8x64 .f32 := Memref.whole cc0_stg2_0
abbrev tM : Memref sig .tc .vmem S8x64 .i32 := Memref.whole cc0_stg3_0
abbrev nM : Memref sig .tc .vmem S8 .i32 := Memref.whole cc0_stg4_0
abbrev outM : Memref sig .tc .vmem S8x1x8x64 .f32 := Memref.whole cc0_stg5_0
/-- The block of partial results the device computes and sends. -/
abbrev ownM : Memref sig .tc .vmem S8x8x128 .f32 := Memref.whole cc0_scratch0
/-- The landing buffer, one slot a peer. -/
abbrev commM : Memref sig .tc .vmem S31x8x8x128 .f32 := Memref.whole cc0_scratch1

theorem inb_slot (s : Fin 31) : ∀ a, (![s.val, 0, 0, 0] : Fin 4 → Nat) a + S1x8x8x128.size a ≤ S31x8x8x128.size a := by
  revert s; decide
theorem inb_sem (s : Fin 31) : ∀ a, (![s.val] : Fin 1 → Nat) a + S1.size a ≤ S31.size a := by revert s; decide
theorem inb_slab (h : Fin 8) : ∀ a, (![0, h.val, 0] : Fin 3 → Nat) a + S8x1x128.size a ≤ S8x8x128.size a := by revert h; decide
theorem inb_qh (h : Fin 8) : ∀ a, (![0, 0, h.val, 0] : Fin 4 → Nat) a + S8x1x1x64.size a ≤ S8x1x8x64.size a := by revert h; decide
theorem inb_kh (h : Fin 8) : ∀ a, (![0, 0, h.val, 0] : Fin 4 → Nat) a + S64x16x1x64.size a ≤ S64x16x8x64.size a := by revert h; decide

abbrev slotR (s : Fin 31) : Rect S31x8x8x128 := Rect.unit (s := S31x8x8x128) ![s.val, 0, 0, 0] S1x8x8x128.size (inb_slot s)
/-- Slot `s` of the landing buffer, as the transfers name it. -/
abbrev slotM (s : Fin 31) : Memref sig .tc .vmem S8x8x128 .f32 :=
  (commM.slice (slotR s) (fun _ => rfl)).squeeze S8x8x128 squeezes_S1x8x8x128_S8x8x128

/-- The runtime's barrier semaphore; the send and the receive semaphore of slot `s`. -/
abbrev barS : Sem sig := (SemArray.scalar (sig.barrier 0 rfl) : Sems sig S_).sem
abbrev sendQ (s : Fin 31) : DmaSem sig := ((cc0_scratch2.slice (Rect.unit (s := S31) ![s.val] S1.size (inb_sem s))).squeeze S_ squeezes_S1_S_).sem
abbrev recvQ (s : Fin 31) : DmaSem sig := ((cc0_scratch3.slice (Rect.unit (s := S31) ![s.val] S1.size (inb_sem s))).squeeze S_ squeezes_S1_S_).sem

theorem sendQ_val : ∀ s : Fin 31, (sendQ s).val = 6 + s.val := by decide +kernel
theorem recvQ_val : ∀ s : Fin 31, (recvQ s).val = 37 + s.val := by decide +kernel

/-- The exchange's semaphores on a device: the barrier, the 31 send ones, the 31 receive ones. -/
abbrev CK : Type := Unit ⊕ (Fin 31 ⊕ Fin 31)
abbrev osem : Fin 31 ⊕ Fin 31 → SemLoc sig := fun | .inl s => .dma (sendQ s) | .inr s => .dma (recvQ s)
abbrev csem : CK → SemLoc sig := fun | .inl _ => .reg barS | .inr k => osem k
abbrev kcell (ck : Dev nD × CK) : GSem nD τ sig := ((ck.1 : Thread nD τ), csem ck.2)
abbrev kB : CK := .inl ()
abbrev kS (s : Fin 31) : CK := .inr (.inl s)
abbrev kR (s : Fin 31) : CK := .inr (.inr s)
abbrev barCell (c : Dev nD) : GSem nD τ sig := kcell (c, kB)
abbrev sendCell (c : Dev nD) (s : Fin 31) : GSem nD τ sig := kcell (c, kS s)
abbrev recvCell (c : Dev nD) (s : Fin 31) : GSem nD τ sig := kcell (c, kR s)

theorem osem_inj : Function.Injective osem := by
  rintro (s | s) (t | t) h
  · have := congrArg Fin.val (SemLoc.dma.inj h); rw [sendQ_val, sendQ_val] at this; congr 1; exact Fin.ext (by omega)
  · have := congrArg Fin.val (SemLoc.dma.inj h); rw [sendQ_val, recvQ_val] at this; have := s.isLt; omega
  · have := congrArg Fin.val (SemLoc.dma.inj h); rw [sendQ_val, recvQ_val] at this; have := t.isLt; omega
  · have := congrArg Fin.val (SemLoc.dma.inj h); rw [recvQ_val, recvQ_val] at this; congr 1; exact Fin.ext (by omega)
theorem csem_inj : Function.Injective csem := by
  rintro (_ | k) (_ | l) h
  · rfl
  · rcases l with l | l <;> cases h
  · rcases k with k | k <;> cases h
  · exact congrArg Sum.inr (osem_inj h)

theorem kcell_injective : Function.Injective (kcell : Dev nD × CK → GSem nD τ sig) := by
  rintro ⟨c, k⟩ ⟨c', k'⟩ h
  have h1 : c = c' := congrArg (fun g : GSem nD τ sig => g.1.1) h
  subst h1
  have h2 : k = k' := csem_inj (congrArg Prod.snd h)
  subst h2; rfl

/-- Which of the exchange's semaphores a semaphore is. -/
def kindOf (sm : SemLoc sig) : Option CK := Function.partialInv csem sm
theorem kindOf_csem (k : CK) : kindOf (csem k) = some k := Function.partialInv_left csem_inj k
theorem csem_of_kindOf {sm : SemLoc sig} {k : CK} (h : kindOf sm = some k) : csem k = sm :=
  (Function.partialInv_of_injective csem_inj k sm).mp h

/-- What a transfer of one block credits. -/
@[irreducible] def N : ℕ := ownM.view.dmaCredit
theorem N_pos : 0 < N := by unfold N; exact View.dmaCredit_pos _ (by decide)
theorem own_credit : ownM.view.dmaCredit = N := by unfold N; rfl
theorem slot_credit (s : Fin 31) : (slotM s).view.dmaCredit = N := by unfold N; rfl
theorem slot_amount (s : Fin 31) (q : DmaSem sig) : (slotM s).view.amount (.dma q) = N := by unfold N; rfl

/-! ## Contents -/

/-- The kernel's operands as staged on device `c`: the whole of the device's arrays. -/
def qAt (c : Dev nD) : (cc0_stg0_0 : Ref sig .tc).ty.Contents (Elt F) := (win0_0.blk (0 : Fin 1)).view.read (Elt F) (m ((c : Thread nD τ).loc main_arg0))
def kAt (c : Dev nD) : (cc0_stg1_0 : Ref sig .tc).ty.Contents (Elt F) := (win0_1.blk (0 : Fin 1)).view.read (Elt F) (m ((c : Thread nD τ).loc main_arg1))
def vAt (c : Dev nD) : (cc0_stg2_0 : Ref sig .tc).ty.Contents (Elt F) := (win0_2.blk (0 : Fin 1)).view.read (Elt F) (m ((c : Thread nD τ).loc main_arg2))
def tAt (c : Dev nD) : (cc0_stg3_0 : Ref sig .tc).ty.Contents (Elt F) := (win0_3.blk (0 : Fin 1)).view.read (Elt F) (m ((c : Thread nD τ).loc main_arg3))
def nAt (c : Dev nD) : (cc0_stg4_0 : Ref sig .tc).ty.Contents (Elt F) := (win0_4.blk (0 : Fin 1)).view.read (Elt F) (m ((c : Thread nD τ).loc main_arg4))

/-- Head `h` of the query, of the keys, of the values, as the kernel loads them. -/
abbrev qRect (h : Fin 8) : Rect S8x1x8x64 := Rect.unit (s := S8x1x8x64) ![0, 0, h.val, 0] S8x1x1x64.size (inb_qh h)
abbrev kRect (h : Fin 8) : Rect S64x16x8x64 := Rect.unit (s := S64x16x8x64) ![0, 0, h.val, 0] S64x16x1x64.size (inb_kh h)
def qHead (c : Dev nD) (h : Fin 8) : Vec F S8x1x1x64 .f32 := qM.view.readAt (Elt F) (qRect h).toLoadRect (qAt m c)
def kHead (c : Dev nD) (h : Fin 8) : Vec F S64x16x1x64 .f32 := kM.view.readAt (Elt F) (kRect h).toLoadRect (kAt m c)
def vHead (c : Dev nD) (h : Fin 8) : Vec F S64x16x1x64 .f32 := vM.view.readAt (Elt F) (kRect h).toLoadRect (vAt m c)

/-- The device's place on the mesh, as the kernel computes it. -/
def place (c : Dev nD) : BitVec 32 := Scalar.remsi (Scalar.divsi (Dev.word c) 1#32) 32#32
/-- How often each of the device's keys is named by the block tables, within the lengths. -/
def weights (c : Dev nD) : FVec F S8x1024 .f32 :=
  k0_pay7 (F := F) (place c) (k0_pay2 (F := F) (tAt m c)) (k0_pay3 (F := F) (nAt m c)) (iota .tc S8x64x1024 32 [1] iota_S8x64x1024_d1_w32) k0_pay4 k0_pay5 k0_pay6
/-- Head `h`'s partial results on device `c`: the weighted sum of values, the maximal score, the sum of weights. -/
def headOut (c : Dev nD) (h : Fin 8) : FVec F S8x1x128 .f32 := k0_pay15 (weights m c) (qHead m c h) (kHead m c h) (vHead m c h)

abbrev slabR (h : Fin 8) : Rect S8x8x128 := Rect.unit (s := S8x8x128) ![0, h.val, 0] S8x1x128.size (inb_slab h)
/-- Storing head `h`'s slab. -/
abbrev storeSlab (h : Fin 8) (f : cc0_scratch0.ty.Contents (Elt F)) (w : FVec F S8x1x128 .f32) : cc0_scratch0.ty.Contents (Elt F) :=
  (ownM.access (slabR h) : View sig .tc _ _ _).write (Elt F) f w Finset.univ

/-- The block of partial results of device `c`, slab by slab. -/
def ownF (c : Dev nD) : cc0_scratch0.ty.Contents (Elt F) :=
  fun i => storeSlab (F := F) (i 1) (m ((c : Thread nD τ).loc cc0_scratch0)) (headOut m c (i 1)) i
/-- The landing buffer of device `c` when every peer's block has arrived. -/
def commF (c : Dev nD) : cc0_scratch1.ty.Contents (Elt F) :=
  fun i => (slotM (i 0)).view.write (Elt F) (m ((c : Thread nD τ).loc cc0_scratch1)) (ownF m (bwd c (i 0))) Finset.univ i

/-- The heads before `n` are in place. -/
def Upto (c : Dev nD) (n : ℕ) (f : cc0_scratch0.ty.Contents (Elt F)) : Prop := ∀ i, (i 1).val < n → f i = ownF m c i

omit [FloatOps F] in
theorem slab_head {h : Fin 8} {x : S8x1x128.Idx} : ((ownM.access (slabR h) : View sig .tc _ _ _).emb x) 1 = h := by
  refine Fin.ext ?_
  show h.val + 1 * (x 1).val = h.val
  have : (x 1).val < 1 := (x 1).isLt
  omega

omit [FloatOps F] in
theorem mem_slab_iff {h : Fin 8} {i : S8x8x128.Idx} : i ∈ (ownM.access (slabR h) : View sig .tc _ _ _).set ↔ i 1 = h := by
  constructor
  · intro hi
    obtain ⟨x, -, rfl⟩ := Finset.mem_map.mp hi
    exact slab_head
  · rintro rfl
    rw [show (ownM.access (slabR (i 1)) : View sig .tc _ _ _).set = (slabR (i 1)).set from View.set_slice_whole _ _, Rect.mem_set_unit]
    intro a; have := (i a).isLt
    fin_cases a <;> simp_all [S8x8x128, S8x1x128]

theorem upto_step (c : Dev nD) (h : Fin 8) {f} (hf : Upto m c h.val f) : Upto m c (h.val + 1) (storeSlab h f (headOut m c h)) := by
  intro i hi
  by_cases e : i 1 = h
  · have hm := mem_slab_iff.mpr e
    obtain ⟨x, -, rfl⟩ := Finset.mem_map.mp hm
    unfold ownF
    rw [e]
    unfold storeSlab
    rw [View.write_emb_of_mem _ _ (Finset.mem_univ x), View.write_emb_of_mem _ _ (Finset.mem_univ x)]
  · have hn : i ∉ (ownM.access (slabR h) : View sig .tc _ _ _).setOn Finset.univ := fun hm => e (mem_slab_iff.mp hm)
    unfold storeSlab
    rw [View.write_of_not_mem _ _ _ hn]
    exact hf i (by have : (i 1).val ≠ h.val := fun e' => e (Fin.ext e'); omega)

theorem upto_all (c : Dev nD) {f} (hf : Upto m c 8 f) : f = ownF m c := funext fun i => hf i (i 1).isLt
theorem upto_zero (c : Dev nD) (f) : Upto m c 0 f := fun i hi => absurd hi (Nat.not_lt_zero _)

omit [FloatOps F] in
theorem slot_first {s : Fin 31} {x : S8x8x128.Idx} : ((slotM s).view.emb x) 0 = s := by
  refine Fin.ext ?_
  show s.val + 1 * (Shape.reshapeEquiv _ x 0).val = s.val
  have : (Shape.reshapeEquiv (s := S1x8x8x128) (s' := S8x8x128) (by decide) x 0).val < 1 := Fin.isLt _
  omega

omit [FloatOps F] in
theorem mem_slot_iff {s : Fin 31} {i : S31x8x8x128.Idx} : i ∈ (slotM s).view.set ↔ i 0 = s := by
  constructor
  · intro hi
    obtain ⟨x, -, rfl⟩ := Finset.mem_map.mp hi
    exact slot_first
  · rintro rfl
    rw [show (slotM (i 0)).view.set = (slotR (i 0)).set from (View.set_reshape _ _).trans (View.set_slice_whole _ _), Rect.mem_set_unit]
    intro a; have := (i a).isLt
    fin_cases a <;> simp_all [S31x8x8x128, S1x8x8x128]

/-- A slot written with a peer's block agrees with the full landing buffer there. -/
theorem slot_written (c : Dev nD) (s : Fin 31) (f) (w : S8x8x128.Idx → Elt F .f32) (hw : w = ownF m (bwd c s)) :
    ∀ i ∈ (slotM s).view.set, (slotM s).view.write (Elt F) f w Finset.univ i = commF m c i := by
  intro i hi
  obtain ⟨x, -, rfl⟩ := Finset.mem_map.mp hi
  unfold commF
  rw [slot_first, View.write_emb_of_mem _ _ (Finset.mem_univ x), View.write_emb_of_mem _ _ (Finset.mem_univ x), hw]

/-- Reading slot `s` of the full landing buffer gives the block of the peer it came from. -/
theorem slot_read (c : Dev nD) (s : Fin 31) : (slotM s).view.read (Elt F) (commF m c) = ownF m (bwd c s) := by
  funext x
  rw [View.read_apply]
  unfold commF
  rw [slot_first, View.write_emb_of_mem _ _ (Finset.mem_univ x)]
  rfl

end Cert.KernelIdeal.Exchange

end
-- ==== Proof.KernelIdeal.Sched.lean ====
/-
The schedule of the exchange: duties, amounts and payloads of every semaphore, what each device owes, the levels.
-/
module

public import proofs.«01_k».proof.Proof.KernelIdeal.Ring

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Points-to -/

/-- Slot `s` of device `c`'s landing buffer, at the contents `f` of the buffer. -/
def slotPts (c : Dev nD) (s : Fin 31) (f : Buf (Elt F) ((c : Thread nD τ).loc cc0_scratch1)) : sProp 𝕄 :=
  (slotM s).view.loc (c : Thread nD τ) ↦[(slotM s).view.set]{fullShare} f
/-- Share `q` of device `c`'s own block. -/
def ownPts (c : Dev nD) (q : PosShare TreeShare) : sProp 𝕄 :=
  ownM.view.loc (c : Thread nD τ) ↦[ownM.view.set]{q} ownF m c
/-- The share of its own block that a device lends to its transfer `s`; the 32nd share it keeps. -/
def leaves : Fin 31 ⊕ Fin 1 ≃ Fin (2 ^ 5) := finSumFinEquiv.trans (finCongr (by decide))
def lent (s : Fin 31) : PosShare TreeShare := ShareLeaves.leaf 5 fullShare (leaves (.inl s))
def kept : PosShare TreeShare := ShareLeaves.leaf 5 fullShare (leaves (.inr 0))

instance slotPts_storable (c : Dev nD) (s) (f) : BI.Storable (upEmb : UEmb _ 𝕄) (slotPts (F := F) c s f) := by unfold slotPts; infer_instance
instance ownPts_storable (c : Dev nD) (q) : BI.Storable (upEmb : UEmb _ 𝕄) (ownPts (F := F) m c q) := by unfold ownPts; infer_instance

/-- The landing buffer is its 31 slots. -/
theorem comm_slots (c : Dev nD) (f : Buf (Elt F) ((c : Thread nD τ).loc cc0_scratch1)) :
    (((c : Thread nD τ).loc cc0_scratch1) ↦{fullShare} f : sProp 𝕄) = bigSep Finset.univ fun s => slotPts c s f := by
  have hU : (Finset.univ.biUnion fun s : Fin 31 => (slotM s).view.set) = (Finset.univ : Finset S31x8x8x128.Idx) := by
    ext i
    constructor
    · intro _; exact Finset.mem_univ _
    · intro _; exact Finset.mem_biUnion.mpr ⟨i 0, Finset.mem_univ _, mem_slot_iff.mpr rfl⟩
  have H := pointsTo_biUnion (Ix := Unit) (Name := ℕ) (U := UU) (Lvl := ℕ) (ℓ := (c : Thread nD τ).loc cc0_scratch1) (q := fullShare) (f := f) Finset.univ (fun s : Fin 31 => (slotM s).view.set)
    (fun s _ t _ hst => Finset.disjoint_left.mpr fun i hs ht => hst ((mem_slot_iff.mp hs).symm.trans (mem_slot_iff.mp ht)))
  rw [hU] at H
  exact H

/-- A device's own block is the 31 shares it lends and the one it keeps. -/
theorem own_shares (c : Dev nD) :
    (((c : Thread nD τ).loc cc0_scratch0) ↦{fullShare} ownF m c : sProp 𝕄)
      = iprop(ownPts m c kept ∗ bigSep Finset.univ fun s => ownPts m c (lent s)) := by
  unfold ownPts
  rw [show ownM.view.set = Finset.univ from View.set_whole _]
  have H := ShareLeaves.pointsTo_leaves (Ix := Unit) (Name := ℕ) (U := UU) (Lvl := ℕ) (ℓ := (c : Thread nD τ).loc cc0_scratch0) Finset.univ (ownF m c) 5 fullShare
  rw [bigSep_univ_equiv leaves, bigSep_univ_sum, bigSep_univ_of_subsingleton (0 : Fin 1)] at H
  rw [H]
  exact BI.Entails.antisymm sep_comm sep_comm

/-! ## The schedule -/

/-- What `fwd p t`'s signal hands `p`: slot `t` of `fwd p t`, and that its receive semaphore `t` is at its first round. -/
def barPay (p : Dev nD) (t : Fin 31) : sProp 𝕄 := iprop((∃ f, slotPts (fwd p t) t f) ∗ reached ER (recvCell (fwd p t) t) 0)

/-- One round. A barrier has 31 duties of one unit; a transfer's semaphore one duty of the block's credit. -/
def ringRd : Rounds.Schedule (GSem nD τ sig) (Fin 31) 𝕄 where
  duties g r := if r = 0 ∧ g.1.2 = .tc then (match kindOf g.2 with | some (.inl _) => Finset.univ | some (.inr _) => {0} | none => ∅) else ∅
  unitless _ := False
  amount g _ _ := match kindOf g.2 with | some (.inr _) => N | _ => 1
  payload g _ d := match kindOf g.2 with
    | some (.inl _) => barPay g.1.1 d
    | some (.inr (.inl s)) => ownPts m g.1.1 (lent s)
    | some (.inr (.inr s)) => slotPts g.1.1 s (commF m g.1.1)
    | none => iprop(emp)
  amount_pos g _ _ _ := by
    show 0 < (match kindOf g.2 with | some (.inr _) => N | _ => 1)
    split
    · exact N_pos
    · exact Nat.one_pos

instance ringRd_payload_storable (g : GSem nD τ sig) (r : ℕ) (d : Fin 31) :
    BI.Storable (upEmb : UEmb _ 𝕄) ((ringRd (F := F) m).payload g r d) := by
  show BI.Storable upEmb (match kindOf g.2 with
    | some (.inl _) => barPay g.1.1 d
    | some (.inr (.inl s)) => ownPts m g.1.1 (lent s)
    | some (.inr (.inr s)) => slotPts g.1.1 s (commF m g.1.1)
    | none => iprop(emp))
  unfold barPay
  split <;> infer_instance

section Sched
variable (c : Dev nD) (s : Fin 31)

theorem duties_bar : (ringRd m).duties (barCell c) 0 = Finset.univ := by
  dsimp only [ringRd]; rw [if_pos ⟨rfl, rfl⟩, kindOf_csem]
theorem duties_xfer (k) : (ringRd m).duties (kcell (c, .inr k)) 0 = {0} := by
  dsimp only [ringRd]; rw [if_pos ⟨rfl, rfl⟩, kindOf_csem]
theorem duties_later (g : GSem nD τ sig) : ∀ r, 1 ≤ r → (ringRd m).duties g r = ∅ :=
  fun r hr => by dsimp only [ringRd]; rw [if_neg fun h => by omega]
theorem amount_bar (d) : (ringRd m).amount (barCell c) 0 d = 1 := by dsimp only [ringRd]; rw [kindOf_csem]
theorem amount_xfer (k) (d) : (ringRd m).amount (kcell (c, .inr k)) 0 d = N := by dsimp only [ringRd]; rw [kindOf_csem]
theorem expect_bar : (ringRd m).expect (barCell c) 0 = 31 := by
  unfold Schedule.expect Schedule.amountOf
  rw [duties_bar, Finset.sum_congr rfl fun d _ => amount_bar m c d, Finset.sum_const, Finset.card_univ, Fintype.card_fin, smul_eq_mul]
theorem expect_xfer (k) : (ringRd m).expect (kcell (c, .inr k)) 0 = N := by
  unfold Schedule.expect Schedule.amountOf; rw [duties_xfer, Finset.sum_singleton, amount_xfer]
theorem payload_bar (d) : (ringRd m).payload (barCell c) 0 d = barPay c d := by dsimp only [ringRd]; rw [kindOf_csem]
theorem payload_send (d) : (ringRd m).payload (sendCell c s) 0 d = ownPts m c (lent s) := by dsimp only [ringRd]; rw [kindOf_csem]
theorem payload_recv (d) : (ringRd m).payload (recvCell c s) 0 d = slotPts c s (commF m c) := by dsimp only [ringRd]; rw [kindOf_csem]

theorem rest_bar : bigSep ((ringRd m).duties (barCell c) 0 \ ∅) (fun d => (ringRd m).payload (barCell c) 0 d)
    = bigSep Finset.univ fun t => barPay (F := F) c t := by
  rw [Finset.sdiff_empty, duties_bar]; exact bigSep_congr fun d _ => payload_bar m c d
theorem rest_send : bigSep ((ringRd m).duties (sendCell c s) 0 \ ∅) (fun d => (ringRd m).payload (sendCell c s) 0 d) = ownPts m c (lent s) := by
  rw [Finset.sdiff_empty, duties_xfer, bigSep_singleton, payload_send]
theorem rest_recv : bigSep ((ringRd m).duties (recvCell c s) 0 \ ∅) (fun d => (ringRd m).payload (recvCell c s) 0 d) = slotPts c s (commF m c) := by
  rw [Finset.sdiff_empty, duties_xfer, bigSep_singleton, payload_recv]

end Sched

/-! ## What a device owes; the levels -/

/-- What is owed to the barriers from signal `n` on. -/
def Obar (c : Dev nD) (n : ℕ) : CellTallies nD τ sig Unit := ∑ s ∈ ge n, tallyAt (barCell (fwd c s)) () 1
/-- What is owed to the receive semaphores from transfer `n` on. -/
def Osnd (c : Dev nD) (n : ℕ) : CellTallies nD τ sig Unit := ∑ s ∈ ge n, tallyAt (recvCell (fwd c s) s) () N
def O₀ (c : Dev nD) : CellTallies nD τ sig Unit := Osnd c 0 + Obar c 0

theorem Obar_step (c : Dev nD) (s : Fin 31) : Obar c s.val = Obar c (s.val + 1) + tallyAt (barCell (fwd c s)) () 1 := by
  unfold Obar; rw [ge_step s, Finset.sum_insert (not_mem_ge s), add_comm]
theorem Osnd_step (c : Dev nD) (s : Fin 31) : Osnd c s.val = Osnd c (s.val + 1) + tallyAt (recvCell (fwd c s) s) () N := by
  unfold Osnd; rw [ge_step s, Finset.sum_insert (not_mem_ge s), add_comm]
theorem Obar_last (c : Dev nD) : Obar c 31 = 0 := by unfold Obar; rw [ge_last, Finset.sum_empty]
theorem Osnd_last (c : Dev nD) : Osnd c 31 = 0 := by unfold Osnd; rw [ge_last, Finset.sum_empty]

def L (g : GSem nD τ sig) : Finset Unit := if g.1.2 = .tc then {()} else ∅
/-- Barriers at 1, receive semaphores at 2, the rest at 0. -/
def lv (g : GSem nD τ sig) (_ : Unit) : ℕ := match kindOf g.2 with | some (.inl _) => 1 | some (.inr (.inr _)) => 2 | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u) : lv (barCell c) u = 1 := by dsimp only [lv]; rw [kindOf_csem]
theorem lv_recv (c : Dev nD) (s) (u) : lv (recvCell c s) u = 2 := by dsimp only [lv]; rw [kindOf_csem]

theorem sum_tally_pos {S : Finset (Fin 31)} {f : Fin 31 → GSem nD τ sig} {k : ℕ} {g : GSem nD τ sig} {u : Unit}
    (h : 0 < (∑ s ∈ S, (tallyAt (f s) () k : CellTallies nD τ sig Unit)) g u) : ∃ s ∈ S, g = f s := by
  induction S using Finset.induction_on with
  | empty => exact absurd h (Nat.lt_irrefl 0)
  | insert a S ha ih =>
    rw [Finset.sum_insert ha, Pi.add_apply, Finsupp.add_apply, tallyAt_apply] at h
    by_cases e : g = f a ∧ u = ()
    · exact ⟨a, Finset.mem_insert_self _ _, e.1⟩
    · rw [if_neg e, Nat.zero_add] at h
      obtain ⟨s, hs, hg⟩ := ih h
      exact ⟨s, Finset.mem_insert_of_mem hs, hg⟩

theorem Osnd_pos {c : Dev nD} {n : ℕ} {g : GSem nD τ sig} {u : Unit} (h : 0 < Osnd c n g u) : ∃ s, g = recvCell (fwd c s) s :=
  let ⟨s, _, e⟩ := sum_tally_pos h; ⟨s, e⟩
theorem O₀_pos {c : Dev nD} {g : GSem nD τ sig} {u : Unit} (h : 0 < O₀ c g u) :
    (∃ s, g = recvCell (fwd c s) s) ∨ ∃ s, g = barCell (fwd c s) := by
  unfold O₀ at h
  rw [Pi.add_apply, Finsupp.add_apply] at h
  rcases Nat.eq_zero_or_pos (Osnd c 0 g u) with e | e
  · rw [e, Nat.zero_add] at h
    exact Or.inr (let ⟨s, _, e⟩ := sum_tally_pos h; ⟨s, e⟩)
  · exact Or.inl (Osnd_pos e)

/-- At a staging semaphore a device may wait owing what it owes at launch, or nothing. -/
theorem mayWait_stage (c : Dev nD) (q : DmaSem sig) (hq : kindOf (.dma q) = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨s, rfl⟩ | ⟨s, rfl⟩ <;> exact Finset.mem_singleton_self _)
      (fun p hp => by rw [Finset.mem_singleton.mp hp]; show lv ((c : Thread nD τ), .dma q) () ≤ 0; unfold lv; rw [hq])
      (fun g u hg => by
        rcases O₀_pos hg with ⟨s, rfl⟩ | ⟨s, rfl⟩
        · rw [lv_recv]; decide
        · rw [lv_bar]; decide)
  · rw [MayWait_zero]; iintro -; iempintro

/-- At its barrier wait a device owes receive credits only: above its barrier. -/
theorem mayWait_bar (c : Dev nD) : (levAts L lv : sProp 𝕄) ⊢ MayWait (c : Thread nD τ) (.reg barS) () (Osnd c 0) :=
  MayOwe.of_cut (L := L) (lev := lv) 1 (fun p hp => by rw [Finset.mem_singleton.mp hp, L_tc]; exact Finset.mem_singleton_self _)
    (fun g u hg => by obtain ⟨s, rfl⟩ := Osnd_pos hg; exact Finset.mem_singleton_self _)
    (fun p hp => by rw [Finset.mem_singleton.mp hp]; exact (lv_bar c ()).le)
    (fun g u hg => by obtain ⟨s, rfl⟩ := Osnd_pos hg; rw [lv_recv]; decide)

end Cert.KernelIdeal.Exchange

end
-- ==== Proof.KernelIdeal.Steps.lean ====
/-
The four repeated steps of the exchange — a signal, a transfer, a wait for a block, a wait for a lent share —, each at a symbolic slot.
-/
module

public import proofs.«01_k».proof.Proof.KernelIdeal.Sched

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

section Steps

variable (K : Dev nD × CK → ℕ) (c : Dev nD)

/-- Every cell's invariant, under the names `K`, and that every cell has reached its first round. -/
def records : sProp 𝕄 :=
  iprop((bigSep Finset.univ fun ck : Dev nD × CK => cellInv ER (ringRd m) (K ck) (kcell ck))
    ∗ bigSep Finset.univ fun ck : Dev nD × CK => reached ER (kcell ck) 0)

instance records_persistent : BI.Persistent (records m K) := by unfold records; infer_instance

theorem inv_at (ck : Dev nD × CK) : records m K ⊢ cellInv ER (ringRd m) (K ck) (kcell ck) := by
  unfold records; exact sep_elim_left.trans (bigSep_elim (Finset.mem_univ ck))
theorem reached_at (ck : Dev nD × CK) : records m K ⊢ reached ER (kcell ck) 0 := by
  unfold records; exact sep_elim_right.trans (bigSep_elim (Finset.mem_univ ck))

/-- A device owes `O`, whatever it has waited on. -/
def owesE (O : CellTallies nD τ sig Unit) : sProp 𝕄 := iprop(∃ W, owes (c : Thread nD τ) O W)

/-! ### Signals -/

/-- What signal `s` needs: its duty's token and the slot it hands over. -/
def sigItem (s : Fin 31) : sProp 𝕄 := iprop(dutyTok ER (barCell (fwd c s)) 0 s.rev ∗ ∃ f, slotPts c s.rev f)
/-- Before signal `n`. -/
def SigSt (n : ℕ) : sProp 𝕄 := iprop(owesE c (Osnd c 0 + Obar c n) ∗ bigSep (ge n) (sigItem c))

/-- Signal `n`: to `fwd c n`, handing it slot `rev n`. -/
theorem signal_step {n : ℕ} (hn : n < 31) (p : Dev nD) (hp : p = fwd c ⟨n, hn⟩) {α : Type} {Q : α → sProp 𝕄}
    {k : PUnit → Prog (TpuEff nD τ sig (Elt F) Λ₀ .tc) α} :
    records m K
      ⊢ iprop(SigSt c n -∗ (SigSt c (n + 1) -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (p, .tc) barS (1#32 : BitVec 32).toInt) k) Q) := by
  subst hp
  unfold SigSt owesE
  rw [bigSep_ge (sigItem c) ⟨n, hn⟩]
  unfold sigItem
  iintro #HR ⟨⟨%W, HO⟩, ⟨Htok, ⟨%f, Hslot⟩⟩, Hrest⟩ Hk
  iapply (Rounds.wp_signal 𝒱₀ ER (ringRd m) (c : Thread nD τ) none (dst := (fwd c ⟨n, hn⟩ : Thread nD τ)) (κ := K (fwd c ⟨n, hn⟩, kB))
      (d := Fin.rev ⟨n, hn⟩) (by rw [duties_bar]; exact Finset.mem_univ _) ((amount_bar m (fwd c ⟨n, hn⟩) _).trans (by decide)) () (O₀ := Osnd c 0 + Obar c n) (Osnd c 0 + Obar c (n + 1))
      (by rw [show Obar c n = _ from Obar_step c ⟨n, hn⟩, add_assoc]; rfl))
    $$ [HO Htok Hslot]
  · isplitr; · iapply (inv_at m K (fwd c ⟨n, hn⟩, kB)); iexact HR
    isplitl [HO]; · iexact HO
    isplitl [Htok]; · iexact Htok
    isplitl [Hslot]
    · rw [payload_bar]; unfold barPay; rw [fwd_fwd_rev]
      isplitl [Hslot]; · iexists f; iexact Hslot
      iapply (reached_at m K (c, kR (Fin.rev ⟨n, hn⟩))); iexact HR
    iapply (reached_at m K (fwd c ⟨n, hn⟩, kB)); iexact HR
  iintro HO
  iapply Hk
  isplitl [HO]; · iexists W; iexact HO
  iexact Hrest

/-! ### Transfers -/

/-- What transfer `s` needs: the two duties' tokens, the peer's slot, a share of the source. -/
def sendItem (s : Fin 31) : sProp 𝕄 :=
  iprop((dutyTok ER (sendCell c s) 0 0 ∗ dutyTok ER (recvCell (fwd c s) s) 0 0) ∗ barPay c s ∗ ownPts m c (lent s))
/-- Before transfer `n`. -/
def SendSt (n : ℕ) : sProp 𝕄 :=
  iprop(owesE c (Osnd c n) ∗ bigSep (ge n) (sendItem m c) ∗ bigSep (lt n) fun s => cred (tallyAt (sendCell c s) () N))

/-- Transfer `n`: the device's own block to slot `n` of `fwd c n`. -/
theorem send_step {n : ℕ} (hn : n < 31) (p : Dev nD) (hp : p = fwd c ⟨n, hn⟩)
    {hsc : (slotM ⟨n, hn⟩ : Memref sig (Dev.tc p : Thread nD τ).2.kind .vmem S8x8x128 .f32).view.ref.isScScratch = false}
    {hsrc : ownM.view.WordExact} {hdst : (slotM ⟨n, hn⟩).view.WordExact}
    {hsem : DmaTarget.Typed .vmem (.dma (recvQ ⟨n, hn⟩)) (.remote (Dev.tc p : Thread nD τ) (slotM ⟨n, hn⟩) (.dma (sendQ ⟨n, hn⟩)) hsc)}
    {α : Type} {Q : α → sProp 𝕄} {k : PUnit → Prog (TpuEff nD τ sig (Elt F) Λ₀ .tc) α} :
    records m K
      ⊢ iprop(SendSt m c n -∗ (SendSt m c (n + 1) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma ownM (.remote (Dev.tc p : Thread nD τ) (slotM ⟨n, hn⟩) (.dma (sendQ ⟨n, hn⟩)) hsc) (.dma (recvQ ⟨n, hn⟩)) hsrc hdst hsem) k) Q) := by
  subst hp
  unfold SendSt owesE
  rw [bigSep_ge (sendItem m c) ⟨n, hn⟩, bigSep_lt (fun s => (cred (tallyAt (sendCell c s) () N) : sProp 𝕄)) ⟨n, hn⟩]
  unfold sendItem barPay
  iintro #HR ⟨⟨%W, HO⟩, ⟨⟨⟨HtS, HtR⟩, ⟨⟨%f, Hslot⟩, #Hr⟩, Hown⟩, Hrest⟩, Hcr⟩ Hk
  iapply (Rounds.wp_send_pointsTo 𝒱₀ ER (ringRd m) (c : Thread nD τ) none (κ₁ := K (c, kS ⟨n, hn⟩)) (κ₂ := K (fwd c ⟨n, hn⟩, kR ⟨n, hn⟩))
      (r₁ := 0) (r₂ := 0) (d₁ := 0) (d₂ := 0) (q := lent ⟨n, hn⟩) (fs := ownF m c) (fd := f)
      (by rw [show ((c : Thread nD τ), SemLoc.dma (sendQ ⟨n, hn⟩)) = kcell (c, kS ⟨n, hn⟩) from rfl, duties_xfer]; exact Finset.mem_singleton_self _)
      (by rw [show ((fwd c ⟨n, hn⟩ : Thread nD τ), SemLoc.dma (recvQ ⟨n, hn⟩)) = kcell (fwd c ⟨n, hn⟩, kR ⟨n, hn⟩) from rfl, duties_xfer]; exact Finset.mem_singleton_self _)
      () () N (slot_amount ⟨n, hn⟩ _) (amount_xfer m c (.inl ⟨n, hn⟩) 0) (amount_xfer m (fwd c ⟨n, hn⟩) (.inr ⟨n, hn⟩) 0) (Osnd c (n + 1)) (Osnd_step c ⟨n, hn⟩) (W := W)
      (by rw [show ((c : Thread nD τ), SemLoc.dma (sendQ ⟨n, hn⟩)) = sendCell c ⟨n, hn⟩ from rfl, payload_send]; unfold ownPts; exact BI.Entails.refl _)
      (by
        rw [show ((fwd c ⟨n, hn⟩ : Thread nD τ), SemLoc.dma (recvQ ⟨n, hn⟩)) = recvCell (fwd c ⟨n, hn⟩) ⟨n, hn⟩ from rfl, payload_recv]
        unfold slotPts
        refine Entails.of_eq (pointsTo_congr (slot_written m (fwd c ⟨n, hn⟩) ⟨n, hn⟩ f _ ?_))
        rw [bwd_fwd]
        exact View.read_whole _ _))
    $$ [HO HtS HtR Hslot Hown]
  · isplitr; · iapply (inv_at m K (c, kS ⟨n, hn⟩)); iexact HR
    isplitr; · iapply (inv_at m K (fwd c ⟨n, hn⟩, kR ⟨n, hn⟩)); iexact HR
    isplitl [Hown]; · unfold ownPts; iexact Hown
    isplitl [Hslot]; · unfold slotPts; iexact Hslot
    isplitl [HO]; · iexact HO
    isplitl [HtS]; · iexact HtS
    isplitr; · iapply (reached_at m K (c, kS ⟨n, hn⟩)); iexact HR
    isplitl [HtR]; · iexact HtR
    iexact Hr
  iintro ⟨HcS, HO⟩
  iapply Hk
  isplitl [HO]; · iexists W; iexact HO
  isplitl [Hrest]; · iexact Hrest
  isplitl [HcS]; · iexact HcS
  iexact Hcr

/-! ### Waits -/

/-- What the wait for block `s` needs, and what it gives. -/
def recvItem (s : Fin 31) : sProp 𝕄 := iprop(cred (tallyAt (recvCell c s) () N) ∗ atPos ER (recvCell c s) 0 ∅ 0)
def recvDone (s : Fin 31) : sProp 𝕄 := iprop(slotPts c s (commF m c) ∗ atPos ER (recvCell c s) (0 + 1) ∅ 0)
/-- Before the wait for block `n`. -/
def RecvSt (n : ℕ) : sProp 𝕄 := iprop(owesE c 0 ∗ bigSep (ge n) (recvItem c) ∗ bigSep (lt n) (recvDone m c))

/-- The wait for the block from `bwd c n`. -/
theorem recv_step {n : ℕ} (hn : n < 31) {hsrc : ownM.view.WordExact} {hdst : (slotM ⟨n, hn⟩).view.WordExact}
    {α : Type} {Q : α → sProp 𝕄} {k : PUnit → Prog (TpuEff nD τ sig (Elt F) Λ₀ .tc) α} :
    records m K
      ⊢ iprop(RecvSt m c n -∗ (RecvSt m c (n + 1) -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 (recvQ ⟨n, hn⟩) ownM (slotM ⟨n, hn⟩) hsrc hdst) k) Q) := by
  unfold RecvSt owesE
  rw [bigSep_ge (recvItem c) ⟨n, hn⟩, bigSep_lt (recvDone m c) ⟨n, hn⟩]
  unfold recvItem recvDone
  iintro #HR ⟨⟨%W, HO⟩, ⟨⟨HcV, Hat⟩, Hrest⟩, Hdone⟩ Hk
  iapply (Rounds.wp_wait_rest_token 𝒱₀ ER (ringRd m) (c : Thread nD τ) none (κ := K (c, kR ⟨n, hn⟩)) (sm := .dma (recvQ ⟨n, hn⟩)) (k' := N)
      (fun K' => (wpE_waitDma2_eq 𝒱₀ (c : Thread nD τ) none Set.univ K').trans (by rw [slot_credit])) (Set.mem_univ _) () (O := 0) (W := W) (R := 0) (m := 0) (T := ∅)
      (by rw [Nat.zero_add]; exact (expect_xfer m c (.inr ⟨n, hn⟩)).symm)) $$ [HcV HO Hat]
  · isplitr; · iapply (inv_at m K (c, kR ⟨n, hn⟩)); iexact HR
    isplitl [HcV]; · iexact HcV
    isplitl [HO]; · iexact HO
    isplitr; · rw [MayWait_zero]; iempintro
    iexact Hat
  iintro ⟨HO, Hat, -, Hpay⟩
  ihave Hslot := (Entails.of_eq (rest_recv m c ⟨n, hn⟩)) $$ Hpay
  iapply Hk
  isplitl [HO]; · iexists _; iexact HO
  isplitl [Hrest]; · iexact Hrest
  isplitl [Hslot Hat]
  · isplitl [Hslot]; · iexact Hslot
    iexact Hat
  iexact Hdone

/-- What the wait for lent share `s` needs, and what it gives. -/
def backItem (s : Fin 31) : sProp 𝕄 := iprop(cred (tallyAt (sendCell c s) () N) ∗ atPos ER (sendCell c s) 0 ∅ 0)
def backDone (s : Fin 31) : sProp 𝕄 := iprop(ownPts m c (lent s) ∗ atPos ER (sendCell c s) (0 + 1) ∅ 0)
/-- Before the wait for share `n`. -/
def BackSt (n : ℕ) : sProp 𝕄 := iprop(owesE c 0 ∗ bigSep (ge n) (backItem c) ∗ bigSep (lt n) (backDone m c))

/-- The wait for the source share of transfer `n`. -/
theorem back_step {n : ℕ} (hn : n < 31) {hsrc : (slotM ⟨n, hn⟩).view.WordExact} {hdst : ownM.view.WordExact}
    {α : Type} {Q : α → sProp 𝕄} {k : PUnit → Prog (TpuEff nD τ sig (Elt F) Λ₀ .tc) α} :
    records m K
      ⊢ iprop(BackSt m c n -∗ (BackSt m c (n + 1) -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 (sendQ ⟨n, hn⟩) (slotM ⟨n, hn⟩) ownM hsrc hdst) k) Q) := by
  unfold BackSt owesE
  rw [bigSep_ge (backItem c) ⟨n, hn⟩, bigSep_lt (backDone m c) ⟨n, hn⟩]
  unfold backItem backDone
  iintro #HR ⟨⟨%W, HO⟩, ⟨⟨HcV, Hat⟩, Hrest⟩, Hdone⟩ Hk
  iapply (Rounds.wp_wait_rest_token 𝒱₀ ER (ringRd m) (c : Thread nD τ) none (κ := K (c, kS ⟨n, hn⟩)) (sm := .dma (sendQ ⟨n, hn⟩)) (k' := N)
      (fun K' => (wpE_waitDma2_eq 𝒱₀ (c : Thread nD τ) none Set.univ K').trans (by rw [own_credit])) (Set.mem_univ _) () (O := 0) (W := W) (R := 0) (m := 0) (T := ∅)
      (by rw [Nat.zero_add]; exact (expect_xfer m c (.inl ⟨n, hn⟩)).symm)) $$ [HcV HO Hat]
  · isplitr; · iapply (inv_at m K (c, kS ⟨n, hn⟩)); iexact HR
    isplitl [HcV]; · iexact HcV
    isplitl [HO]; · iexact HO
    isplitr; · rw [MayWait_zero]; iempintro
    iexact Hat
  iintro ⟨HO, Hat, -, Hpay⟩
  ihave Hown := (Entails.of_eq (rest_send m c ⟨n, hn⟩)) $$ Hpay
  iapply Hk
  isplitl [HO]; · iexists _; iexact HO
  isplitl [Hrest]; · iexact Hrest
  isplitl [Hown Hat]
  · isplitl [Hown]; · iexact Hown
    iexact Hat
  iexact Hdone

end Steps

end Cert.KernelIdeal.Exchange

end
-- ==== Proof.KernelIdeal.Loads.lean ====
/-
The kernel's loads and stores of its own buffers.
-/
module

public import proofs.«01_k».proof.Proof.KernelIdeal.Steps

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ### The eight heads -/
abbrev hd0 : Fin 8 := ⟨0, by decide⟩
abbrev hd1 : Fin 8 := ⟨1, by decide⟩
abbrev hd2 : Fin 8 := ⟨2, by decide⟩
abbrev hd3 : Fin 8 := ⟨3, by decide⟩
abbrev hd4 : Fin 8 := ⟨4, by decide⟩
abbrev hd5 : Fin 8 := ⟨5, by decide⟩
abbrev hd6 : Fin 8 := ⟨6, by decide⟩
abbrev hd7 : Fin 8 := ⟨7, by decide⟩

section Loads

variable (c : Dev nD)

/-- The staged operands. -/
def stgQ : sProp 𝕄 := iprop(((c : Thread nD τ).loc cc0_stg0_0) ↦{fullShare} qAt m c)
def stgK : sProp 𝕄 := iprop(((c : Thread nD τ).loc cc0_stg1_0) ↦{fullShare} kAt m c)
def stgV : sProp 𝕄 := iprop(((c : Thread nD τ).loc cc0_stg2_0) ↦{fullShare} vAt m c)
def stgT : sProp 𝕄 := iprop(((c : Thread nD τ).loc cc0_stg3_0) ↦{fullShare} tAt m c)
def stgN : sProp 𝕄 := iprop(((c : Thread nD τ).loc cc0_stg4_0) ↦{fullShare} nAt m c)
/-- The own block with the heads before `n` in place. -/
def OwnSt (n : ℕ) : sProp 𝕄 := iprop(∃ f, ⌜Upto m c n f⌝ ∗ (((c : Thread nD τ).loc cc0_scratch0) ↦{fullShare} f))

/-- Loading head `h` of the query. -/
theorem load_q (h : Fin 8) {hl} {α : Type} {Q : α → sProp 𝕄} {k : _ → Prog (TpuEff nD τ sig (Elt F) Λ₀ .tc) α} :
    stgQ m c ⊢ iprop((stgQ m c -∗ wp frame (wpE (defs₀ (F := F)) 𝒱₀ (c : Thread nD τ) none) Set.univ (k (qHead m c h)) Q)
      -∗ wp frame (wpE (defs₀ (F := F)) 𝒱₀ (c : Thread nD τ) none) Set.univ (.op (.load qM (qRect h).toLoadRect hl) k) Q) := by
  unfold stgQ
  exact wp_load 𝒱₀ (c : Thread nD τ) none Set.univ (m := qM) (Finset.subset_univ _)

/-- Loading head `h` of the keys. -/
theorem load_k (h : Fin 8) {hl} {α : Type} {Q : α → sProp 𝕄} {k : _ → Prog (TpuEff nD τ sig (Elt F) Λ₀ .tc) α} :
    stgK m c ⊢ iprop((stgK m c -∗ wp frame (wpE (defs₀ (F := F)) 𝒱₀ (c : Thread nD τ) none) Set.univ (k (kHead m c h)) Q)
      -∗ wp frame (wpE (defs₀ (F := F)) 𝒱₀ (c : Thread nD τ) none) Set.univ (.op (.load kM (kRect h).toLoadRect hl) k) Q) := by
  unfold stgK
  exact wp_load 𝒱₀ (c : Thread nD τ) none Set.univ (m := kM) (Finset.subset_univ _)

/-- Loading head `h` of the values. -/
theorem load_v (h : Fin 8) {hl} {α : Type} {Q : α → sProp 𝕄} {k : _ → Prog (TpuEff nD τ sig (Elt F) Λ₀ .tc) α} :
    stgV m c ⊢ iprop((stgV m c -∗ wp frame (wpE (defs₀ (F := F)) 𝒱₀ (c : Thread nD τ) none) Set.univ (k (vHead m c h)) Q)
      -∗ wp frame (wpE (defs₀ (F := F)) 𝒱₀ (c : Thread nD τ) none) Set.univ (.op (.load vM (kRect h).toLoadRect hl) k) Q) := by
  unfold stgV
  exact wp_load 𝒱₀ (c : Thread nD τ) none Set.univ (m := vM) (Finset.subset_univ _)

/-- Loading the block tables. -/
theorem load_t {hl} {α : Type} {Q : α → sProp 𝕄} {k : _ → Prog (TpuEff nD τ sig (Elt F) Λ₀ .tc) α} :
    stgT m c ⊢ iprop((stgT m c -∗ wp frame (wpE (defs₀ (F := F)) 𝒱₀ (c : Thread nD τ) none) Set.univ (k (tAt m c)) Q)
      -∗ wp frame (wpE (defs₀ (F := F)) 𝒱₀ (c : Thread nD τ) none) Set.univ (.op (.load tM (Rect.unit (s := S8x64) ![0, 0] S8x64.size inb_S8x64_S8x64_0_0).toLoadRect hl) k) Q) := by
  unfold stgT
  iintro H Hk
  iapply (wp_load 𝒱₀ (c : Thread nD τ) none Set.univ (m := tM) (Finset.subset_univ _)) $$ H; iintro H
  rw [show tM.view.readAt (Elt F) (Rect.unit (s := S8x64) ![0, 0] S8x64.size inb_S8x64_S8x64_0_0).toLoadRect (tAt m c) = tAt m c from
    Memref.readAt_unit_zero (Elt F) cc0_stg3_0 (by decide) _ (tAt m c)]
  iapply Hk $$ H

/-- Loading the lengths. -/
theorem load_n {hl} {α : Type} {Q : α → sProp 𝕄} {k : _ → Prog (TpuEff nD τ sig (Elt F) Λ₀ .tc) α} :
    stgN m c ⊢ iprop((stgN m c -∗ wp frame (wpE (defs₀ (F := F)) 𝒱₀ (c : Thread nD τ) none) Set.univ (k (nAt m c)) Q)
      -∗ wp frame (wpE (defs₀ (F := F)) 𝒱₀ (c : Thread nD τ) none) Set.univ (.op (.load nM (Rect.unit (s := S8) ![0] S8.size inb_S8_S8_0).toLoadRect hl) k) Q) := by
  unfold stgN
  iintro H Hk
  iapply (wp_load 𝒱₀ (c : Thread nD τ) none Set.univ (m := nM) (Finset.subset_univ _)) $$ H; iintro H
  rw [show nM.view.readAt (Elt F) (Rect.unit (s := S8) ![0] S8.size inb_S8_S8_0).toLoadRect (nAt m c) = nAt m c from
    Memref.readAt_unit_zero (Elt F) cc0_stg4_0 (by decide) _ (nAt m c)]
  iapply Hk $$ H

/-- A slab loaded before it is stored: the value is not used. -/
theorem load_slab {n : ℕ} (h : Fin 8) {hl} {α : Type} {Q : α → sProp 𝕄} {k : _ → Prog (TpuEff nD τ sig (Elt F) Λ₀ .tc) α} :
    OwnSt m c n ⊢ iprop((OwnSt m c n -∗ ∀ v, wp frame (wpE (defs₀ (F := F)) 𝒱₀ (c : Thread nD τ) none) Set.univ (k v) Q)
      -∗ wp frame (wpE (defs₀ (F := F)) 𝒱₀ (c : Thread nD τ) none) Set.univ (.op (.load ownM (slabR h).toLoadRect hl) k) Q) := by
  unfold OwnSt
  iintro ⟨%f, %hf, H⟩ Hk
  iapply (wp_load 𝒱₀ (c : Thread nD τ) none Set.univ (m := ownM) (Finset.subset_univ _)) $$ H; iintro H
  iapply Hk $$ [H]
  iexists f; isplitr; · (ipureintro; exact hf)
  iexact H

/-- Storing head `h`'s slab. -/
theorem store_slab {n : ℕ} (hn : n < 8) (w : FVec F S8x1x128 .f32) (hw : w = headOut m c ⟨n, hn⟩) {h1 h2} {α : Type} {Q : α → sProp 𝕄} {k : _ → Prog (TpuEff nD τ sig (Elt F) Λ₀ .tc) α} :
    OwnSt m c n ⊢ iprop((OwnSt m c (n + 1) -∗ wp frame (wpE (defs₀ (F := F)) 𝒱₀ (c : Thread nD τ) none) Set.univ (k ⟨⟩) Q)
      -∗ wp frame (wpE (defs₀ (F := F)) 𝒱₀ (c : Thread nD τ) none) Set.univ (.op (.store ownM (slabR ⟨n, hn⟩) w Finset.univ h1 h2) k) Q) := by
  subst hw
  unfold OwnSt
  iintro ⟨%f, %hf, H⟩ Hk
  iapply (wp_store 𝒱₀ (c : Thread nD τ) none Set.univ (m := ownM) (r := slabR ⟨n, hn⟩) (Mk := Finset.univ) (Finset.subset_univ _)) $$ H; iintro H
  iapply Hk
  iexists _; isplitr; · (ipureintro; exact upto_step m c ⟨n, hn⟩ hf)
  iexact H

end Loads

end Cert.KernelIdeal.Exchange

end
-- ==== Proof.KernelIdeal.Signals.lean ====
/-
The entry barrier's signals, part by part.
-/
module

public import proofs.«01_k».proof.Proof.KernelIdeal.Loads

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Signals

variable (K : Dev nD × CK → ℕ) (c : Dev nD)

/-- Signals 0 to 4. -/
theorem part1 {Q : _ → sProp 𝕄} :
    records m K ⊢ iprop(SigSt c 0 -∗ (SigSt c 5 -∗ ∀ a b, Q ⟨c, Scalar.remsi (Scalar.divsi (Dev.word c) 1#32) 32#32, (SemArray.scalar (sig.barrier 0 rfl)), a, b⟩)
      -∗ wp frame (wpE (defs₀ (F := F)) 𝒱₀ (c : Thread nD τ) none) Set.univ (k0_part1 (F := F) qM (Memref.isWhole_whole _) kM (Memref.isWhole_whole _) vM (Memref.isWhole_whole _) tM (Memref.isWhole_whole _) nM (Memref.isWhole_whole _) outM (Memref.isWhole_whole _) ownM (Memref.isWhole_whole _) commM (Memref.isWhole_whole _) cc0_scratch2 cc0_scratch3) Q) := by
  rw [k0_part1_eq_skeleton]; unfold k0_part1_skel
  simp only [semSignalWord, semWaitWord, Prog.lift, Prog.bind_op, Prog.bind_ret, Prog.pure_eq_ret, wp_deviceId]
  iintro #HR H Hk
  iapply (signal_step m K c (n := 0) (by decide) _ (Fin.ext (k0_dev1_eq c))) $$ HR H; iintro H
  iapply (signal_step m K c (n := 1) (by decide) _ (Fin.ext (k0_dev2_eq c))) $$ HR H; iintro H
  iapply (signal_step m K c (n := 2) (by decide) _ (Fin.ext (k0_dev3_eq c))) $$ HR H; iintro H
  iapply (signal_step m K c (n := 3) (by decide) _ (Fin.ext (k0_dev4_eq c))) $$ HR H; iintro H
  iapply (signal_step m K c (n := 4) (by decide) _ (Fin.ext (k0_dev5_eq c))) $$ HR H; iintro H
  rw [wp_ret]; imodintro; iapply Hk $$ H

/-- Signals 5 to 10. -/
theorem part2 (x y z : BitVec 32) {Q : _ → sProp 𝕄} :
    records m K ⊢ iprop(SigSt c 5 -∗ (SigSt c 11 -∗ ∀ a b, Q ⟨a, b⟩)
      -∗ wp frame (wpE (defs₀ (F := F)) 𝒱₀ (c : Thread nD τ) none) Set.univ (k0_part2 (F := F) qM (Memref.isWhole_whole _) kM (Memref.isWhole_whole _) vM (Memref.isWhole_whole _) tM (Memref.isWhole_whole _) nM (Memref.isWhole_whole _) outM (Memref.isWhole_whole _) ownM (Memref.isWhole_whole _) commM (Memref.isWhole_whole _) cc0_scratch2 cc0_scratch3 c x (SemArray.scalar (sig.barrier 0 rfl)) y z) Q) := by
  rw [k0_part2_eq_skeleton]; unfold k0_part2_skel
  simp only [semSignalWord, semWaitWord, Prog.lift, Prog.bind_op, Prog.bind_ret, Prog.pure_eq_ret, wp_deviceId]
  iintro #HR H Hk
  iapply (signal_step m K c (n := 5) (by decide) _ (Fin.ext (k0_dev6_eq c))) $$ HR H; iintro H
  iapply (signal_step m K c (n := 6) (by decide) _ (Fin.ext (k0_dev7_eq c))) $$ HR H; iintro H
  iapply (signal_step m K c (n := 7) (by decide) _ (Fin.ext (k0_dev8_eq c))) $$ HR H; iintro H
  iapply (signal_step m K c (n := 8) (by decide) _ (Fin.ext (k0_dev9_eq c))) $$ HR H; iintro H
  iapply (signal_step m K c (n := 9) (by decide) _ (Fin.ext (k0_dev10_eq c))) $$ HR H; iintro H
  iapply (signal_step m K c (n := 10) (by decide) _ (Fin.ext (k0_dev11_eq c))) $$ HR H; iintro H
  rw [wp_ret]; imodintro; iapply Hk $$ H

/-- Signals 11 to 16. -/
theorem part3 (x y z : BitVec 32) {Q : _ → sProp 𝕄} :
    records m K ⊢ iprop(SigSt c 11 -∗ (SigSt c 17 -∗ ∀ a b, Q ⟨a, b⟩)
      -∗ wp frame (wpE (defs₀ (F := F)) 𝒱₀ (c : Thread nD τ) none) Set.univ (k0_part3 (F := F) qM (Memref.isWhole_whole _) kM (Memref.isWhole_whole _) vM (Memref.isWhole_whole _) tM (Memref.isWhole_whole _) nM (Memref.isWhole_whole _) outM (Memref.isWhole_whole _) ownM (Memref.isWhole_whole _) commM (Memref.isWhole_whole _) cc0_scratch2 cc0_scratch3 c x (SemArray.scalar (sig.barrier 0 rfl)) y z) Q) := by
  rw [k0_part3_eq_skeleton]; unfold k0_part3_skel
  simp only [semSignalWord, semWaitWord, Prog.lift, Prog.bind_op, Prog.bind_ret, Prog.pure_eq_ret, wp_deviceId]
  iintro #HR H Hk
  iapply (signal_step m K c (n := 11) (by decide) _ (Fin.ext (k0_dev12_eq c))) $$ HR H; iintro H
  iapply (signal_step m K c (n := 12) (by decide) _ (Fin.ext (k0_dev13_eq c))) $$ HR H; iintro H
  iapply (signal_step m K c (n := 13) (by decide) _ (Fin.ext (k0_dev14_eq c))) $$ HR H; iintro H
  iapply (signal_step m K c (n := 14) (by decide) _ (Fin.ext (k0_dev15_eq c))) $$ HR H; iintro H
  iapply (signal_step m K c (n := 15) (by decide) _ (Fin.ext (k0_dev16_eq c))) $$ HR H; iintro H
  iapply (signal_step m K c (n := 16) (by decide) _ (Fin.ext (k0_dev17_eq c))) $$ HR H; iintro H
  rw [wp_ret]; imodintro; iapply Hk $$ H

/-- Signals 17 to 22. -/
theorem part4 (x y z : BitVec 32) {Q : _ → sProp 𝕄} :
    records m K ⊢ iprop(SigSt c 17 -∗ (SigSt c 23 -∗ ∀ a b, Q ⟨a, b⟩)
      -∗ wp frame (wpE (defs₀ (F := F)) 𝒱₀ (c : Thread nD τ) none) Set.univ (k0_part4 (F := F) qM (Memref.isWhole_whole _) kM (Memref.isWhole_whole _) vM (Memref.isWhole_whole _) tM (Memref.isWhole_whole _) nM (Memref.isWhole_whole _) outM (Memref.isWhole_whole _) ownM (Memref.isWhole_whole _) commM (Memref.isWhole_whole _) cc0_scratch2 cc0_scratch3 c x (SemArray.scalar (sig.barrier 0 rfl)) y z) Q) := by
  rw [k0_part4_eq_skeleton]; unfold k0_part4_skel
  simp only [semSignalWord, semWaitWord, Prog.lift, Prog.bind_op, Prog.bind_ret, Prog.pure_eq_ret, wp_deviceId]
  iintro #HR H Hk
  iapply (signal_step m K c (n := 17) (by decide) _ (Fin.ext (k0_dev18_eq c))) $$ HR H; iintro H
  iapply (signal_step m K c (n := 18) (by decide) _ (Fin.ext (k0_dev19_eq c))) $$ HR H; iintro H
  iapply (signal_step m K c (n := 19) (by decide) _ (Fin.ext (k0_dev20_eq c))) $$ HR H; iintro H
  iapply (signal_step m K c (n := 20) (by decide) _ (Fin.ext (k0_dev21_eq c))) $$ HR H; iintro H
  iapply (signal_step m K c (n := 21) (by decide) _ (Fin.ext (k0_dev22_eq c))) $$ HR H; iintro H
  iapply (signal_step m K c (n := 22) (by decide) _ (Fin.ext (k0_dev23_eq c))) $$ HR H; iintro H
  rw [wp_ret]; imodintro; iapply Hk $$ H

/-- Signals 23 to 28. -/
theorem part5 (x y z : BitVec 32) {Q : _ → sProp 𝕄} :
    records m K ⊢ iprop(SigSt c 23 -∗ (SigSt c 29 -∗ ∀ a b, Q ⟨a, b⟩)
      -∗ wp frame (wpE (defs₀ (F := F)) 𝒱₀ (c : Thread nD τ) none) Set.univ (k0_part5 (F := F) qM (Memref.isWhole_whole _) kM (Memref.isWhole_whole _) vM (Memref.isWhole_whole _) tM (Memref.isWhole_whole _) nM (Memref.isWhole_whole _) outM (Memref.isWhole_whole _) ownM (Memref.isWhole_whole _) commM (Memref.isWhole_whole _) cc0_scratch2 cc0_scratch3 c x (SemArray.scalar (sig.barrier 0 rfl)) y z) Q) := by
  rw [k0_part5_eq_skeleton]; unfold k0_part5_skel
  simp only [semSignalWord, semWaitWord, Prog.lift, Prog.bind_op, Prog.bind_ret, Prog.pure_eq_ret, wp_deviceId]
  iintro #HR H Hk
  iapply (signal_step m K c (n := 23) (by decide) _ (Fin.ext (k0_dev24_eq c))) $$ HR H; iintro H
  iapply (signal_step m K c (n := 24) (by decide) _ (Fin.ext (k0_dev25_eq c))) $$ HR H; iintro H
  iapply (signal_step m K c (n := 25) (by decide) _ (Fin.ext (k0_dev26_eq c))) $$ HR H; iintro H
  iapply (signal_step m K c (n := 26) (by decide) _ (Fin.ext (k0_dev27_eq c))) $$ HR H; iintro H
  iapply (signal_step m K c (n := 27) (by decide) _ (Fin.ext (k0_dev28_eq c))) $$ HR H; iintro H
  iapply (signal_step m K c (n := 28) (by decide) _ (Fin.ext (k0_dev29_eq c))) $$ HR H; iintro H
  rw [wp_ret]; imodintro; iapply Hk $$ H

end Signals

end Cert.KernelIdeal.Exchange

end
-- ==== Proof.KernelIdeal.Arrive.lean ====
/-
The wait on the barrier and the passages from one stage of the exchange to the next.
-/
module

public import proofs.«01_k».proof.Proof.KernelIdeal.Loads

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Arrive

variable (K : Dev nD × CK → ℕ) (c : Dev nD)

/-- What the wait on the barrier needs beside the signals, and what it gives: every peer's slot for this device. -/
def BarIn : sProp 𝕄 := iprop(cred (tallyAt (barCell c) () 31) ∗ atPos ER (barCell c) 0 ∅ 0 ∗ levAts L lv)
def BarOut : sProp 𝕄 := iprop(atPos ER (barCell c) (0 + 1) ∅ 0 ∗ bigSep Finset.univ fun t => barPay c t)

/-- The wait on the barrier, after the last signal. -/
theorem bar_step {α : Type} {Q : α → sProp 𝕄} {k : PUnit → Prog (TpuEff nD τ sig (Elt F) Λ₀ .tc) α} :
    records m K
      ⊢ iprop(SigSt c 31 -∗ BarIn c -∗ ((owesE c (Osnd c 0) ∗ BarOut c) -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS (31#32 : BitVec 32).toInt) k) Q) := by
  unfold SigSt BarIn BarOut owesE
  rw [Obar_last, add_zero]
  iintro #HR ⟨⟨%W, HO⟩, -⟩ ⟨HcB, HatB, #Hlev⟩ Hk
  iapply (Rounds.wp_wait_rest_token 𝒱₀ ER (ringRd m) (c : Thread nD τ) none (κ := K (c, kB))
      (wpE_semWait_eq 𝒱₀ (c : Thread nD τ) none Set.univ) (Set.mem_univ _) () (O := Osnd c 0) (W := W) (R := 0) (m := 0) (T := ∅)
      (by rw [expect_bar]; decide)) $$ [HcB HO HatB]
  · isplitr; · iapply (inv_at m K (c, kB)); iexact HR
    isplitl [HcB]; · iexact HcB
    isplitl [HO]; · iexact HO
    isplitr; · iapply (mayWait_bar c); iexact Hlev
    iexact HatB
  iintro ⟨HO, HatB, -, Hpay⟩
  ihave Hp := (Entails.of_eq (rest_bar m c)) $$ Hpay
  iapply Hk
  isplitl [HO]; · iexists _; iexact HO
  isplitl [HatB]; · iexact HatB
  iexact Hp

/-! ### From one stage to the next -/

/-- The duties' tokens of the transfers. -/
def sendToks : sProp 𝕄 := bigSep Finset.univ fun s => iprop(dutyTok ER (sendCell c s) 0 0 ∗ dutyTok ER (recvCell (fwd c s) s) 0 0)

/-- With the own block complete and every peer's slot at hand, the transfers begin. -/
theorem send_intro : iprop(OwnSt m c 8 ∗ owesE c (Osnd c 0) ∗ sendToks c ∗ bigSep Finset.univ fun t => barPay c t)
    ⊢ (iprop(ownPts m c kept ∗ SendSt m c 0) : sProp 𝕄) := by
  unfold OwnSt SendSt sendToks sendItem
  rw [ge_zero, lt_zero, bigSep_empty, bigSep_sep' (Φ := fun s => iprop(dutyTok ER (sendCell c s) 0 0 ∗ dutyTok ER (recvCell (fwd c s) s) 0 0)) (Ψ := fun s => iprop(barPay c s ∗ ownPts m c (lent s))),
    bigSep_sep' (Φ := fun s => barPay c s)]
  iintro ⟨⟨%f, %hf, Hown⟩, HO, Ht, Hb⟩
  obtain rfl := upto_all m c hf
  ihave Hown := (Entails.of_eq (own_shares m c)) $$ Hown
  icases Hown with ⟨Hkept, Hlent⟩
  isplitl [Hkept]; · iexact Hkept
  isplitl [HO]; · iexact HO
  isplitl
  · isplitl [Ht]; · iexact Ht
    isplitl [Hb]; · iexact Hb
    iexact Hlent
  · iempintro

/-- The transfers begun, the device owes nothing and waits for the blocks. -/
theorem recv_intro : iprop(SendSt m c 31 ∗ bigSep Finset.univ fun s => recvItem c s)
    ⊢ (iprop(RecvSt m c 0 ∗ bigSep Finset.univ fun s => cred (tallyAt (sendCell c s) () N)) : sProp 𝕄) := by
  unfold SendSt RecvSt
  rw [ge_last, lt_last, ge_zero, lt_zero, bigSep_empty, bigSep_empty, Osnd_last]
  iintro ⟨⟨HO, -, Hc⟩, Hr⟩
  isplitr [Hc]
  · isplitl [HO]; · iexact HO
    isplitl [Hr]; · iexact Hr
    iempintro
  · iexact Hc

/-- The blocks arrived, the device holds its landing buffer and waits for the shares it lent. -/
theorem back_intro : iprop(RecvSt m c 31 ∗ (bigSep Finset.univ fun s => cred (tallyAt (sendCell c s) () N)) ∗ bigSep Finset.univ fun s => atPos ER (sendCell c s) 0 ∅ 0)
    ⊢ (iprop(BackSt m c 0 ∗ (((c : Thread nD τ).loc cc0_scratch1) ↦{fullShare} commF m c) ∗ bigSep Finset.univ fun s => atPos ER (recvCell c s) (0 + 1) ∅ 0) : sProp 𝕄) := by
  unfold RecvSt BackSt
  rw [ge_last, lt_last, ge_zero, lt_zero, bigSep_empty, bigSep_empty, comm_slots]
  unfold recvDone backItem
  rw [bigSep_sep', bigSep_sep']
  iintro ⟨⟨HO, -, Hs, Ha⟩, Hc, Hb⟩
  isplitr [Hs Ha]
  · isplitl [HO]; · iexact HO
    isplitl
    · isplitl [Hc]; · iexact Hc
      iexact Hb
    iempintro
  · isplitl [Hs]; · iexact Hs
    iexact Ha

/-- The shares back, the own block is whole again. -/
theorem back_done : iprop(BackSt m c 31 ∗ ownPts m c kept)
    ⊢ (iprop(owesE c 0 ∗ (((c : Thread nD τ).loc cc0_scratch0) ↦{fullShare} ownF m c) ∗ bigSep Finset.univ fun s => atPos ER (sendCell c s) (0 + 1) ∅ 0) : sProp 𝕄) := by
  unfold BackSt
  rw [ge_last, lt_last, bigSep_empty, own_shares]
  unfold backDone
  rw [bigSep_sep']
  iintro ⟨⟨HO, -, Hs, Ha⟩, Hk⟩
  isplitl [HO]; · iexact HO
  isplitr [Ha]
  · isplitl [Hk]; · iexact Hk
    iexact Hs
  · iexact Ha

end Arrive

end Cert.KernelIdeal.Exchange

end
-- ==== Proof.KernelIdeal.Heads.lean ====
/-
The device's own block of partial results, part by part.
-/
module

public import proofs.«01_k».proof.Proof.KernelIdeal.Arrive

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Heads

variable (K : Dev nD × CK → ℕ) (c : Dev nD)

/-- The last signals, the wait on the barrier, the tables and the lengths. -/
theorem part6 (x y z : BitVec 32) {Q : _ → sProp 𝕄} :
    records m K ⊢ iprop(SigSt c 29 -∗ BarIn c -∗ stgT m c -∗ stgN m c -∗ ((owesE c (Osnd c 0) ∗ BarOut c) -∗ stgT m c -∗ stgN m c -∗ Q ⟨k0_pay2 (tAt m c), k0_pay3 (nAt m c), iota .tc S8x64x1024 32 [1] iota_S8x64x1024_d1_w32, k0_pay4, k0_pay5, k0_pay6⟩)
      -∗ wp frame (wpE (defs₀ (F := F)) 𝒱₀ (c : Thread nD τ) none) Set.univ (k0_part6 (F := F) qM (Memref.isWhole_whole _) kM (Memref.isWhole_whole _) vM (Memref.isWhole_whole _) tM (Memref.isWhole_whole _) nM (Memref.isWhole_whole _) outM (Memref.isWhole_whole _) ownM (Memref.isWhole_whole _) commM (Memref.isWhole_whole _) cc0_scratch2 cc0_scratch3 c x (SemArray.scalar (sig.barrier 0 rfl)) y z) Q) := by
  rw [k0_part6_eq_skeleton]; unfold k0_part6_skel
  simp only [semSignalWord, semWaitWord, Prog.lift, Prog.bind_op, Prog.bind_ret, Prog.pure_eq_ret, wp_deviceId]
  iintro #HR H HB Ht Hn Hc
  iapply (signal_step m K c (n := 29) (by decide) _ (Fin.ext (k0_dev30_eq c))) $$ HR H; iintro H
  iapply (signal_step m K c (n := 30) (by decide) _ (Fin.ext (k0_dev31_eq c))) $$ HR H; iintro H
  iapply (bar_step m K c) $$ HR H HB; iintro H
  iapply (load_t m c) $$ Ht; iintro Ht
  iapply (load_n m c) $$ Hn; iintro Hn
  rw [wp_ret]; imodintro; iapply Hc $$ H Ht Hn

/-- The weights and head 0's partial results. -/
theorem part7 (x : BitVec 32) {Q : _ → sProp 𝕄} :
    stgQ m c ⊢ iprop(stgK m c -∗ stgV m c -∗ (stgQ m c -∗ stgK m c -∗ stgV m c -∗ Q ⟨k0_pay7 (F := F) x (k0_pay2 (F := F) (tAt m c)) (k0_pay3 (F := F) (nAt m c)) (iota .tc S8x64x1024 32 [1] iota_S8x64x1024_d1_w32) k0_pay4 k0_pay5 k0_pay6, k0_pay9 x (k0_pay2 (F := F) (tAt m c)) (k0_pay3 (F := F) (nAt m c)) (iota .tc S8x64x1024 32 [1] iota_S8x64x1024_d1_w32) k0_pay4 k0_pay5 k0_pay6 (qHead m c hd0) (kHead m c hd0), k0_pay11 x (k0_pay2 (F := F) (tAt m c)) (k0_pay3 (F := F) (nAt m c)) (iota .tc S8x64x1024 32 [1] iota_S8x64x1024_d1_w32) k0_pay4 k0_pay5 k0_pay6 (qHead m c hd0) (kHead m c hd0), k0_pay12 x (k0_pay2 (F := F) (tAt m c)) (k0_pay3 (F := F) (nAt m c)) (iota .tc S8x64x1024 32 [1] iota_S8x64x1024_d1_w32) k0_pay4 k0_pay5 k0_pay6 (qHead m c hd0) (kHead m c hd0) (vHead m c hd0), k0_pay13 (F := F)⟩)
      -∗ wp frame (wpE (defs₀ (F := F)) 𝒱₀ (c : Thread nD τ) none) Set.univ (k0_part7 (F := F) qM (Memref.isWhole_whole _) kM (Memref.isWhole_whole _) vM (Memref.isWhole_whole _) tM (Memref.isWhole_whole _) nM (Memref.isWhole_whole _) outM (Memref.isWhole_whole _) ownM (Memref.isWhole_whole _) commM (Memref.isWhole_whole _) cc0_scratch2 cc0_scratch3 x (k0_pay2 (F := F) (tAt m c)) (k0_pay3 (F := F) (nAt m c)) (iota .tc S8x64x1024 32 [1] iota_S8x64x1024_d1_w32) k0_pay4 k0_pay5 k0_pay6) Q) := by
  rw [k0_part7_eq_skeleton]; unfold k0_part7_skel
  simp only [semSignalWord, semWaitWord, Prog.lift, Prog.bind_op, Prog.bind_ret, Prog.pure_eq_ret, wp_deviceId]
  iintro Hq Hk Hv Hc
  iapply (load_q m c hd0) $$ Hq; iintro Hq
  iapply (load_k m c hd0) $$ Hk; iintro Hk
  iapply (load_v m c hd0) $$ Hv; iintro Hv
  rw [wp_ret]; imodintro; iapply Hc $$ Hq Hk Hv

/-- Head 0's slab, and head 1's partial results. -/
theorem part8 {Q : _ → sProp 𝕄} :
    stgQ m c ⊢ iprop(stgK m c -∗ stgV m c -∗ OwnSt m c 0 -∗ (stgQ m c -∗ stgK m c -∗ stgV m c -∗ OwnSt m c 1 -∗ Q (k0_pay15 (weights m c) (qHead m c hd1) (kHead m c hd1) (vHead m c hd1)))
      -∗ wp frame (wpE (defs₀ (F := F)) 𝒱₀ (c : Thread nD τ) none) Set.univ (k0_part8 (F := F) qM (Memref.isWhole_whole _) kM (Memref.isWhole_whole _) vM (Memref.isWhole_whole _) tM (Memref.isWhole_whole _) nM (Memref.isWhole_whole _) outM (Memref.isWhole_whole _) ownM (Memref.isWhole_whole _) commM (Memref.isWhole_whole _) cc0_scratch2 cc0_scratch3 (weights m c) (k0_pay9 (place c) (k0_pay2 (F := F) (tAt m c)) (k0_pay3 (F := F) (nAt m c)) (iota .tc S8x64x1024 32 [1] iota_S8x64x1024_d1_w32) k0_pay4 k0_pay5 k0_pay6 (qHead m c hd0) (kHead m c hd0)) (k0_pay11 (place c) (k0_pay2 (F := F) (tAt m c)) (k0_pay3 (F := F) (nAt m c)) (iota .tc S8x64x1024 32 [1] iota_S8x64x1024_d1_w32) k0_pay4 k0_pay5 k0_pay6 (qHead m c hd0) (kHead m c hd0)) (k0_pay12 (place c) (k0_pay2 (F := F) (tAt m c)) (k0_pay3 (F := F) (nAt m c)) (iota .tc S8x64x1024 32 [1] iota_S8x64x1024_d1_w32) k0_pay4 k0_pay5 k0_pay6 (qHead m c hd0) (kHead m c hd0) (vHead m c hd0)) (k0_pay13 (F := F))) Q) := by
  rw [k0_part8_eq_skeleton]; unfold k0_part8_skel
  simp only [semSignalWord, semWaitWord, Prog.lift, Prog.bind_op, Prog.bind_ret, Prog.pure_eq_ret, wp_deviceId]
  iintro Hq Hk Hv Hs Hc
  iapply (load_slab m c hd0) $$ Hs; iintro Hs %_
  iapply (store_slab m c (n := 0) hd0.isLt (k0_pay14 (k0_pay9 (place c) (k0_pay2 (F := F) (tAt m c)) (k0_pay3 (F := F) (nAt m c)) (iota .tc S8x64x1024 32 [1] iota_S8x64x1024_d1_w32) k0_pay4 k0_pay5 k0_pay6 (qHead m c hd0) (kHead m c hd0)) (k0_pay11 (place c) (k0_pay2 (F := F) (tAt m c)) (k0_pay3 (F := F) (nAt m c)) (iota .tc S8x64x1024 32 [1] iota_S8x64x1024_d1_w32) k0_pay4 k0_pay5 k0_pay6 (qHead m c hd0) (kHead m c hd0)) (k0_pay12 (place c) (k0_pay2 (F := F) (tAt m c)) (k0_pay3 (F := F) (nAt m c)) (iota .tc S8x64x1024 32 [1] iota_S8x64x1024_d1_w32) k0_pay4 k0_pay5 k0_pay6 (qHead m c hd0) (kHead m c hd0) (vHead m c hd0)) (k0_pay13 (F := F))) rfl) $$ Hs; iintro Hs
  iapply (load_q m c hd1) $$ Hq; iintro Hq
  iapply (load_k m c hd1) $$ Hk; iintro Hk
  iapply (load_v m c hd1) $$ Hv; iintro Hv
  iapply (load_slab m c hd1) $$ Hs; iintro Hs %_
  rw [wp_ret]; imodintro; iapply Hc $$ Hq Hk Hv Hs

/-- The slabs of heads 1 and 2. -/
theorem part9 {Q : _ → sProp 𝕄} :
    stgQ m c ⊢ iprop(stgK m c -∗ stgV m c -∗ OwnSt m c 1 -∗ (stgQ m c -∗ stgK m c -∗ stgV m c -∗ OwnSt m c 3 -∗ Q (k0_pay17 (qHead m c hd3)))
      -∗ wp frame (wpE (defs₀ (F := F)) 𝒱₀ (c : Thread nD τ) none) Set.univ (k0_part9 (F := F) qM (Memref.isWhole_whole _) kM (Memref.isWhole_whole _) vM (Memref.isWhole_whole _) tM (Memref.isWhole_whole _) nM (Memref.isWhole_whole _) outM (Memref.isWhole_whole _) ownM (Memref.isWhole_whole _) commM (Memref.isWhole_whole _) cc0_scratch2 cc0_scratch3 (weights m c) (k0_pay15 (weights m c) (qHead m c hd1) (kHead m c hd1) (vHead m c hd1))) Q) := by
  rw [k0_part9_eq_skeleton]; unfold k0_part9_skel
  simp only [semSignalWord, semWaitWord, Prog.lift, Prog.bind_op, Prog.bind_ret, Prog.pure_eq_ret, wp_deviceId]
  iintro Hq Hk Hv Hs Hc
  iapply (store_slab m c (n := 1) hd1.isLt (k0_pay15 (weights m c) (qHead m c hd1) (kHead m c hd1) (vHead m c hd1)) rfl) $$ Hs; iintro Hs
  iapply (load_q m c hd2) $$ Hq; iintro Hq
  iapply (load_k m c hd2) $$ Hk; iintro Hk
  iapply (load_v m c hd2) $$ Hv; iintro Hv
  iapply (load_slab m c hd2) $$ Hs; iintro Hs %_
  iapply (store_slab m c (n := 2) hd2.isLt (k0_pay16 (weights m c) (qHead m c hd2) (kHead m c hd2) (vHead m c hd2)) rfl) $$ Hs; iintro Hs
  iapply (load_q m c hd3) $$ Hq; iintro Hq
  rw [wp_ret]; imodintro; iapply Hc $$ Hq Hk Hv Hs

/-- Head 3's slab. -/
theorem part10 {Q : _ → sProp 𝕄} :
    stgQ m c ⊢ iprop(stgK m c -∗ stgV m c -∗ OwnSt m c 3 -∗ (stgQ m c -∗ stgK m c -∗ stgV m c -∗ OwnSt m c 4 -∗ Q ⟨k0_pay19 (qHead m c hd4), k0_pay20 (kHead m c hd4)⟩)
      -∗ wp frame (wpE (defs₀ (F := F)) 𝒱₀ (c : Thread nD τ) none) Set.univ (k0_part10 (F := F) qM (Memref.isWhole_whole _) kM (Memref.isWhole_whole _) vM (Memref.isWhole_whole _) tM (Memref.isWhole_whole _) nM (Memref.isWhole_whole _) outM (Memref.isWhole_whole _) ownM (Memref.isWhole_whole _) commM (Memref.isWhole_whole _) cc0_scratch2 cc0_scratch3 (weights m c) (k0_pay17 (qHead m c hd3))) Q) := by
  rw [k0_part10_eq_skeleton]; unfold k0_part10_skel
  simp only [semSignalWord, semWaitWord, Prog.lift, Prog.bind_op, Prog.bind_ret, Prog.pure_eq_ret, wp_deviceId]
  iintro Hq Hk Hv Hs Hc
  iapply (load_k m c hd3) $$ Hk; iintro Hk
  iapply (load_v m c hd3) $$ Hv; iintro Hv
  iapply (load_slab m c hd3) $$ Hs; iintro Hs %_
  iapply (store_slab m c (n := 3) hd3.isLt (k0_pay18 (weights m c) (k0_pay17 (qHead m c hd3)) (kHead m c hd3) (vHead m c hd3)) rfl) $$ Hs; iintro Hs
  iapply (load_q m c hd4) $$ Hq; iintro Hq
  iapply (load_k m c hd4) $$ Hk; iintro Hk
  rw [wp_ret]; imodintro; iapply Hc $$ Hq Hk Hv Hs

/-- Head 4's slab. -/
theorem part11 {Q : _ → sProp 𝕄} :
    stgQ m c ⊢ iprop(stgK m c -∗ stgV m c -∗ OwnSt m c 4 -∗ (stgQ m c -∗ stgK m c -∗ stgV m c -∗ OwnSt m c 5 -∗ Q ⟨k0_pay22 (qHead m c hd5), k0_pay23 (kHead m c hd5), k0_pay24 (vHead m c hd5)⟩)
      -∗ wp frame (wpE (defs₀ (F := F)) 𝒱₀ (c : Thread nD τ) none) Set.univ (k0_part11 (F := F) qM (Memref.isWhole_whole _) kM (Memref.isWhole_whole _) vM (Memref.isWhole_whole _) tM (Memref.isWhole_whole _) nM (Memref.isWhole_whole _) outM (Memref.isWhole_whole _) ownM (Memref.isWhole_whole _) commM (Memref.isWhole_whole _) cc0_scratch2 cc0_scratch3 (weights m c) (k0_pay19 (qHead m c hd4)) (k0_pay20 (kHead m c hd4))) Q) := by
  rw [k0_part11_eq_skeleton]; unfold k0_part11_skel
  simp only [semSignalWord, semWaitWord, Prog.lift, Prog.bind_op, Prog.bind_ret, Prog.pure_eq_ret, wp_deviceId]
  iintro Hq Hk Hv Hs Hc
  iapply (load_v m c hd4) $$ Hv; iintro Hv
  iapply (load_slab m c hd4) $$ Hs; iintro Hs %_
  iapply (store_slab m c (n := 4) hd4.isLt (k0_pay21 (weights m c) (k0_pay19 (qHead m c hd4)) (k0_pay20 (kHead m c hd4)) (vHead m c hd4)) rfl) $$ Hs; iintro Hs
  iapply (load_q m c hd5) $$ Hq; iintro Hq
  iapply (load_k m c hd5) $$ Hk; iintro Hk
  iapply (load_v m c hd5) $$ Hv; iintro Hv
  rw [wp_ret]; imodintro; iapply Hc $$ Hq Hk Hv Hs

/-- Head 5's slab. -/
theorem part12 {Q : _ → sProp 𝕄} :
    stgQ m c ⊢ iprop(stgK m c -∗ stgV m c -∗ OwnSt m c 5 -∗ (stgQ m c -∗ stgK m c -∗ stgV m c -∗ OwnSt m c 6 -∗ Q ⟨k0_pay26 (vHead m c hd6), k0_pay27 (qHead m c hd6) (kHead m c hd6), k0_pay28 (F := F)⟩)
      -∗ wp frame (wpE (defs₀ (F := F)) 𝒱₀ (c : Thread nD τ) none) Set.univ (k0_part12 (F := F) qM (Memref.isWhole_whole _) kM (Memref.isWhole_whole _) vM (Memref.isWhole_whole _) tM (Memref.isWhole_whole _) nM (Memref.isWhole_whole _) outM (Memref.isWhole_whole _) ownM (Memref.isWhole_whole _) commM (Memref.isWhole_whole _) cc0_scratch2 cc0_scratch3 (weights m c) (k0_pay22 (qHead m c hd5)) (k0_pay23 (kHead m c hd5)) (k0_pay24 (vHead m c hd5))) Q) := by
  rw [k0_part12_eq_skeleton]; unfold k0_part12_skel
  simp only [semSignalWord, semWaitWord, Prog.lift, Prog.bind_op, Prog.bind_ret, Prog.pure_eq_ret, wp_deviceId]
  iintro Hq Hk Hv Hs Hc
  iapply (load_slab m c hd5) $$ Hs; iintro Hs %_
  iapply (store_slab m c (n := 5) hd5.isLt (k0_pay25 (weights m c) (k0_pay22 (qHead m c hd5)) (k0_pay23 (kHead m c hd5)) (k0_pay24 (vHead m c hd5))) rfl) $$ Hs; iintro Hs
  iapply (load_q m c hd6) $$ Hq; iintro Hq
  iapply (load_k m c hd6) $$ Hk; iintro Hk
  iapply (load_v m c hd6) $$ Hv; iintro Hv
  rw [wp_ret]; imodintro; iapply Hc $$ Hq Hk Hv Hs

/-- Head 6's slab. -/
theorem part13 {Q : _ → sProp 𝕄} :
    stgQ m c ⊢ iprop(stgK m c -∗ stgV m c -∗ OwnSt m c 6 -∗ (stgQ m c -∗ stgK m c -∗ stgV m c -∗ OwnSt m c 7 -∗ Q ⟨k0_pay30 (vHead m c hd7), k0_pay31 (weights m c) (qHead m c hd7) (kHead m c hd7), k0_pay32 (weights m c) (qHead m c hd7) (kHead m c hd7)⟩)
      -∗ wp frame (wpE (defs₀ (F := F)) 𝒱₀ (c : Thread nD τ) none) Set.univ (k0_part13 (F := F) qM (Memref.isWhole_whole _) kM (Memref.isWhole_whole _) vM (Memref.isWhole_whole _) tM (Memref.isWhole_whole _) nM (Memref.isWhole_whole _) outM (Memref.isWhole_whole _) ownM (Memref.isWhole_whole _) commM (Memref.isWhole_whole _) cc0_scratch2 cc0_scratch3 (weights m c) (k0_pay26 (vHead m c hd6)) (k0_pay27 (qHead m c hd6) (kHead m c hd6)) (k0_pay28 (F := F))) Q) := by
  rw [k0_part13_eq_skeleton]; unfold k0_part13_skel
  simp only [semSignalWord, semWaitWord, Prog.lift, Prog.bind_op, Prog.bind_ret, Prog.pure_eq_ret, wp_deviceId]
  iintro Hq Hk Hv Hs Hc
  iapply (load_slab m c hd6) $$ Hs; iintro Hs %_
  iapply (store_slab m c (n := 6) hd6.isLt (k0_pay29 (weights m c) (k0_pay26 (vHead m c hd6)) (k0_pay27 (qHead m c hd6) (kHead m c hd6)) (k0_pay28 (F := F))) rfl) $$ Hs; iintro Hs
  iapply (load_q m c hd7) $$ Hq; iintro Hq
  iapply (load_k m c hd7) $$ Hk; iintro Hk
  iapply (load_v m c hd7) $$ Hv; iintro Hv
  rw [wp_ret]; imodintro; iapply Hc $$ Hq Hk Hv Hs

/-- Head 7's slab; the block is complete and the first transfer begins. -/
theorem part14 (x : BitVec 32) {Q : _ → sProp 𝕄} :
    records m K ⊢ iprop(OwnSt m c 7 -∗ owesE c (Osnd c 0) -∗ sendToks c -∗ (bigSep Finset.univ fun t => barPay c t) -∗ ((ownPts m c kept ∗ SendSt m c 1) -∗ ∀ a b, Q ⟨a, b⟩)
      -∗ wp frame (wpE (defs₀ (F := F)) 𝒱₀ (c : Thread nD τ) none) Set.univ (k0_part14 (F := F) qM (Memref.isWhole_whole _) kM (Memref.isWhole_whole _) vM (Memref.isWhole_whole _) tM (Memref.isWhole_whole _) nM (Memref.isWhole_whole _) outM (Memref.isWhole_whole _) ownM (Memref.isWhole_whole _) commM (Memref.isWhole_whole _) cc0_scratch2 cc0_scratch3 c x (weights m c) (k0_pay30 (vHead m c hd7)) (k0_pay31 (weights m c) (qHead m c hd7) (kHead m c hd7)) (k0_pay32 (weights m c) (qHead m c hd7) (kHead m c hd7))) Q) := by
  rw [k0_part14_eq_skeleton]; unfold k0_part14_skel
  simp only [semSignalWord, semWaitWord, Prog.lift, Prog.bind_op, Prog.bind_ret, Prog.pure_eq_ret, wp_deviceId]
  iintro #HR Hs HO Ht Hb Hc
  iapply (load_slab m c hd7) $$ Hs; iintro Hs %_
  iapply (store_slab m c (n := 7) hd7.isLt (k0_pay33 (weights m c) (k0_pay30 (vHead m c hd7)) (k0_pay31 (weights m c) (qHead m c hd7) (kHead m c hd7)) (k0_pay32 (weights m c) (qHead m c hd7) (kHead m c hd7))) rfl) $$ Hs; iintro Hs
  ihave H := (send_intro m c) $$ [Hs HO Ht Hb]
  · isplitl [Hs]; · iexact Hs
    isplitl [HO]; · iexact HO
    isplitl [Ht]; · iexact Ht
    iexact Hb
  icases H with ⟨Hk, H⟩
  iapply (send_step m K c (n := 0) (by decide) _ (Fin.ext (k0_dev32_eq c))) $$ HR H; iintro H
  rw [wp_ret]; imodintro; iapply Hc $$ [Hk H]
  isplitl [Hk]; · iexact Hk
  iexact H

end Heads

end Cert.KernelIdeal.Exchange

end
-- ==== Proof.KernelIdeal.Transfers.lean ====
/-
The transfers and their waits, part by part.
-/
module

public import proofs.«01_k».proof.Proof.KernelIdeal.Arrive

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Transfers

variable (K : Dev nD × CK → ℕ) (c : Dev nD)

/-- Transfers 1 to 3. -/
theorem part15 (x : BitVec 32) {Q : _ → sProp 𝕄} :
    records m K ⊢ iprop(SendSt m c 1 -∗ (SendSt m c 4 -∗ ∀ a b d, Q ⟨a, b, d⟩)
      -∗ wp frame (wpE (defs₀ (F := F)) 𝒱₀ (c : Thread nD τ) none) Set.univ (k0_part15 (F := F) qM (Memref.isWhole_whole _) kM (Memref.isWhole_whole _) vM (Memref.isWhole_whole _) tM (Memref.isWhole_whole _) nM (Memref.isWhole_whole _) outM (Memref.isWhole_whole _) ownM (Memref.isWhole_whole _) commM (Memref.isWhole_whole _) cc0_scratch2 cc0_scratch3 c x) Q) := by
  rw [k0_part15_eq_skeleton]; unfold k0_part15_skel
  simp only [semSignalWord, semWaitWord, Prog.lift, Prog.bind_op, Prog.bind_ret, Prog.pure_eq_ret, wp_deviceId]
  iintro #HR H Hk
  iapply (send_step m K c (n := 1) (by decide) _ (Fin.ext (k0_dev33_eq c))) $$ HR H; iintro H
  iapply (send_step m K c (n := 2) (by decide) _ (Fin.ext (k0_dev34_eq c))) $$ HR H; iintro H
  iapply (send_step m K c (n := 3) (by decide) _ (Fin.ext (k0_dev35_eq c))) $$ HR H; iintro H
  rw [wp_ret]; imodintro; iapply Hk $$ H

/-- Transfers 4 to 6. -/
theorem part16 (x : BitVec 32) {Q : _ → sProp 𝕄} :
    records m K ⊢ iprop(SendSt m c 4 -∗ (SendSt m c 7 -∗ ∀ a b d, Q ⟨a, b, d⟩)
      -∗ wp frame (wpE (defs₀ (F := F)) 𝒱₀ (c : Thread nD τ) none) Set.univ (k0_part16 (F := F) qM (Memref.isWhole_whole _) kM (Memref.isWhole_whole _) vM (Memref.isWhole_whole _) tM (Memref.isWhole_whole _) nM (Memref.isWhole_whole _) outM (Memref.isWhole_whole _) ownM (Memref.isWhole_whole _) commM (Memref.isWhole_whole _) cc0_scratch2 cc0_scratch3 c x) Q) := by
  rw [k0_part16_eq_skeleton]; unfold k0_part16_skel
  simp only [semSignalWord, semWaitWord, Prog.lift, Prog.bind_op, Prog.bind_ret, Prog.pure_eq_ret, wp_deviceId]
  iintro #HR H Hk
  iapply (send_step m K c (n := 4) (by decide) _ (Fin.ext (k0_dev36_eq c))) $$ HR H; iintro H
  iapply (send_step m K c (n := 5) (by decide) _ (Fin.ext (k0_dev37_eq c))) $$ HR H; iintro H
  iapply (send_step m K c (n := 6) (by decide) _ (Fin.ext (k0_dev38_eq c))) $$ HR H; iintro H
  rw [wp_ret]; imodintro; iapply Hk $$ H

/-- Transfers 7 to 9. -/
theorem part17 (x : BitVec 32) {Q : _ → sProp 𝕄} :
    records m K ⊢ iprop(SendSt m c 7 -∗ (SendSt m c 10 -∗ ∀ a b d, Q ⟨a, b, d⟩)
      -∗ wp frame (wpE (defs₀ (F := F)) 𝒱₀ (c : Thread nD τ) none) Set.univ (k0_part17 (F := F) qM (Memref.isWhole_whole _) kM (Memref.isWhole_whole _) vM (Memref.isWhole_whole _) tM (Memref.isWhole_whole _) nM (Memref.isWhole_whole _) outM (Memref.isWhole_whole _) ownM (Memref.isWhole_whole _) commM (Memref.isWhole_whole _) cc0_scratch2 cc0_scratch3 c x) Q) := by
  rw [k0_part17_eq_skeleton]; unfold k0_part17_skel
  simp only [semSignalWord, semWaitWord, Prog.lift, Prog.bind_op, Prog.bind_ret, Prog.pure_eq_ret, wp_deviceId]
  iintro #HR H Hk
  iapply (send_step m K c (n := 7) (by decide) _ (Fin.ext (k0_dev39_eq c))) $$ HR H; iintro H
  iapply (send_step m K c (n := 8) (by decide) _ (Fin.ext (k0_dev40_eq c))) $$ HR H; iintro H
  iapply (send_step m K c (n := 9) (by decide) _ (Fin.ext (k0_dev41_eq c))) $$ HR H; iintro H
  rw [wp_ret]; imodintro; iapply Hk $$ H

/-- Transfers 10 to 12. -/
theorem part18 (x : BitVec 32) {Q : _ → sProp 𝕄} :
    records m K ⊢ iprop(SendSt m c 10 -∗ (SendSt m c 13 -∗ ∀ a b d e, Q ⟨a, b, d, e⟩)
      -∗ wp frame (wpE (defs₀ (F := F)) 𝒱₀ (c : Thread nD τ) none) Set.univ (k0_part18 (F := F) qM (Memref.isWhole_whole _) kM (Memref.isWhole_whole _) vM (Memref.isWhole_whole _) tM (Memref.isWhole_whole _) nM (Memref.isWhole_whole _) outM (Memref.isWhole_whole _) ownM (Memref.isWhole_whole _) commM (Memref.isWhole_whole _) cc0_scratch2 cc0_scratch3 c x) Q) := by
  rw [k0_part18_eq_skeleton]; unfold k0_part18_skel
  simp only [semSignalWord, semWaitWord, Prog.lift, Prog.bind_op, Prog.bind_ret, Prog.pure_eq_ret, wp_deviceId]
  iintro #HR H Hk
  iapply (send_step m K c (n := 10) (by decide) _ (Fin.ext (k0_dev42_eq c))) $$ HR H; iintro H
  iapply (send_step m K c (n := 11) (by decide) _ (Fin.ext (k0_dev43_eq c))) $$ HR H; iintro H
  iapply (send_step m K c (n := 12) (by decide) _ (Fin.ext (k0_dev44_eq c))) $$ HR H; iintro H
  rw [wp_ret]; imodintro; iapply Hk $$ H

/-- Transfers 13 to 15. -/
theorem part19 (x y z : BitVec 32) {Q : _ → sProp 𝕄} :
    records m K ⊢ iprop(SendSt m c 13 -∗ (SendSt m c 16 -∗ ∀ a b d, Q ⟨a, b, d⟩)
      -∗ wp frame (wpE (defs₀ (F := F)) 𝒱₀ (c : Thread nD τ) none) Set.univ (k0_part19 (F := F) qM (Memref.isWhole_whole _) kM (Memref.isWhole_whole _) vM (Memref.isWhole_whole _) tM (Memref.isWhole_whole _) nM (Memref.isWhole_whole _) outM (Memref.isWhole_whole _) ownM (Memref.isWhole_whole _) commM (Memref.isWhole_whole _) cc0_scratch2 cc0_scratch3 c x y z) Q) := by
  rw [k0_part19_eq_skeleton]; unfold k0_part19_skel
  simp only [semSignalWord, semWaitWord, Prog.lift, Prog.bind_op, Prog.bind_ret, Prog.pure_eq_ret, wp_deviceId]
  iintro #HR H Hk
  iapply (send_step m K c (n := 13) (by decide) _ (Fin.ext (k0_dev45_eq c))) $$ HR H; iintro H
  iapply (send_step m K c (n := 14) (by decide) _ (Fin.ext (k0_dev46_eq c))) $$ HR H; iintro H
  iapply (send_step m K c (n := 15) (by decide) _ (Fin.ext (k0_dev47_eq c))) $$ HR H; iintro H
  rw [wp_ret]; imodintro; iapply Hk $$ H

/-- Transfers 16 to 18. -/
theorem part20 (x y : BitVec 32) {Q : _ → sProp 𝕄} :
    records m K ⊢ iprop(SendSt m c 16 -∗ (SendSt m c 19 -∗ ∀ a b d, Q ⟨a, b, d⟩)
      -∗ wp frame (wpE (defs₀ (F := F)) 𝒱₀ (c : Thread nD τ) none) Set.univ (k0_part20 (F := F) qM (Memref.isWhole_whole _) kM (Memref.isWhole_whole _) vM (Memref.isWhole_whole _) tM (Memref.isWhole_whole _) nM (Memref.isWhole_whole _) outM (Memref.isWhole_whole _) ownM (Memref.isWhole_whole _) commM (Memref.isWhole_whole _) cc0_scratch2 cc0_scratch3 c x y) Q) := by
  rw [k0_part20_eq_skeleton]; unfold k0_part20_skel
  simp only [semSignalWord, semWaitWord, Prog.lift, Prog.bind_op, Prog.bind_ret, Prog.pure_eq_ret, wp_deviceId]
  iintro #HR H Hk
  iapply (send_step m K c (n := 16) (by decide) _ (Fin.ext (k0_dev48_eq c))) $$ HR H; iintro H
  iapply (send_step m K c (n := 17) (by decide) _ (Fin.ext (k0_dev49_eq c))) $$ HR H; iintro H
  iapply (send_step m K c (n := 18) (by decide) _ (Fin.ext (k0_dev50_eq c))) $$ HR H; iintro H
  rw [wp_ret]; imodintro; iapply Hk $$ H

/-- Transfers 19 to 20. -/
theorem part21 (x y : BitVec 32) {Q : _ → sProp 𝕄} :
    records m K ⊢ iprop(SendSt m c 19 -∗ (SendSt m c 21 -∗ ∀ a b d, Q ⟨a, b, d⟩)
      -∗ wp frame (wpE (defs₀ (F := F)) 𝒱₀ (c : Thread nD τ) none) Set.univ (k0_part21 (F := F) qM (Memref.isWhole_whole _) kM (Memref.isWhole_whole _) vM (Memref.isWhole_whole _) tM (Memref.isWhole_whole _) nM (Memref.isWhole_whole _) outM (Memref.isWhole_whole _) ownM (Memref.isWhole_whole _) commM (Memref.isWhole_whole _) cc0_scratch2 cc0_scratch3 c x y) Q) := by
  rw [k0_part21_eq_skeleton]; unfold k0_part21_skel
  simp only [semSignalWord, semWaitWord, Prog.lift, Prog.bind_op, Prog.bind_ret, Prog.pure_eq_ret, wp_deviceId]
  iintro #HR H Hk
  iapply (send_step m K c (n := 19) (by decide) _ (Fin.ext (k0_dev51_eq c))) $$ HR H; iintro H
  iapply (send_step m K c (n := 20) (by decide) _ (Fin.ext (k0_dev52_eq c))) $$ HR H; iintro H
  rw [wp_ret]; imodintro; iapply Hk $$ H

/-- Transfers 21 to 23. -/
theorem part22 (x : BitVec 32) {Q : _ → sProp 𝕄} :
    records m K ⊢ iprop(SendSt m c 21 -∗ (SendSt m c 24 -∗ ∀ a b d, Q ⟨a, b, d⟩)
      -∗ wp frame (wpE (defs₀ (F := F)) 𝒱₀ (c : Thread nD τ) none) Set.univ (k0_part22 (F := F) qM (Memref.isWhole_whole _) kM (Memref.isWhole_whole _) vM (Memref.isWhole_whole _) tM (Memref.isWhole_whole _) nM (Memref.isWhole_whole _) outM (Memref.isWhole_whole _) ownM (Memref.isWhole_whole _) commM (Memref.isWhole_whole _) cc0_scratch2 cc0_scratch3 c x) Q) := by
  rw [k0_part22_eq_skeleton]; unfold k0_part22_skel
  simp only [semSignalWord, semWaitWord, Prog.lift, Prog.bind_op, Prog.bind_ret, Prog.pure_eq_ret, wp_deviceId]
  iintro #HR H Hk
  iapply (send_step m K c (n := 21) (by decide) _ (Fin.ext (k0_dev53_eq c))) $$ HR H; iintro H
  iapply (send_step m K c (n := 22) (by decide) _ (Fin.ext (k0_dev54_eq c))) $$ HR H; iintro H
  iapply (send_step m K c (n := 23) (by decide) _ (Fin.ext (k0_dev55_eq c))) $$ HR H; iintro H
  rw [wp_ret]; imodintro; iapply Hk $$ H

/-- Transfers 24 to 26. -/
theorem part23 (x : BitVec 32) {Q : _ → sProp 𝕄} :
    records m K ⊢ iprop(SendSt m c 24 -∗ (SendSt m c 27 -∗ ∀ a b d, Q ⟨a, b, d⟩)
      -∗ wp frame (wpE (defs₀ (F := F)) 𝒱₀ (c : Thread nD τ) none) Set.univ (k0_part23 (F := F) qM (Memref.isWhole_whole _) kM (Memref.isWhole_whole _) vM (Memref.isWhole_whole _) tM (Memref.isWhole_whole _) nM (Memref.isWhole_whole _) outM (Memref.isWhole_whole _) ownM (Memref.isWhole_whole _) commM (Memref.isWhole_whole _) cc0_scratch2 cc0_scratch3 c x) Q) := by
  rw [k0_part23_eq_skeleton]; unfold k0_part23_skel
  simp only [semSignalWord, semWaitWord, Prog.lift, Prog.bind_op, Prog.bind_ret, Prog.pure_eq_ret, wp_deviceId]
  iintro #HR H Hk
  iapply (send_step m K c (n := 24) (by decide) _ (Fin.ext (k0_dev56_eq c))) $$ HR H; iintro H
  iapply (send_step m K c (n := 25) (by decide) _ (Fin.ext (k0_dev57_eq c))) $$ HR H; iintro H
  iapply (send_step m K c (n := 26) (by decide) _ (Fin.ext (k0_dev58_eq c))) $$ HR H; iintro H
  rw [wp_ret]; imodintro; iapply Hk $$ H

/-- Transfers 27 to 29. -/
theorem part24 (x : BitVec 32) {Q : _ → sProp 𝕄} :
    records m K ⊢ iprop(SendSt m c 27 -∗ (SendSt m c 30 -∗ ∀ a b d, Q ⟨a, b, d⟩)
      -∗ wp frame (wpE (defs₀ (F := F)) 𝒱₀ (c : Thread nD τ) none) Set.univ (k0_part24 (F := F) qM (Memref.isWhole_whole _) kM (Memref.isWhole_whole _) vM (Memref.isWhole_whole _) tM (Memref.isWhole_whole _) nM (Memref.isWhole_whole _) outM (Memref.isWhole_whole _) ownM (Memref.isWhole_whole _) commM (Memref.isWhole_whole _) cc0_scratch2 cc0_scratch3 c x) Q) := by
  rw [k0_part24_eq_skeleton]; unfold k0_part24_skel
  simp only [semSignalWord, semWaitWord, Prog.lift, Prog.bind_op, Prog.bind_ret, Prog.pure_eq_ret, wp_deviceId]
  iintro #HR H Hk
  iapply (send_step m K c (n := 27) (by decide) _ (Fin.ext (k0_dev59_eq c))) $$ HR H; iintro H
  iapply (send_step m K c (n := 28) (by decide) _ (Fin.ext (k0_dev60_eq c))) $$ HR H; iintro H
  iapply (send_step m K c (n := 29) (by decide) _ (Fin.ext (k0_dev61_eq c))) $$ HR H; iintro H
  rw [wp_ret]; imodintro; iapply Hk $$ H

/-- The waits for blocks 3 to 6. -/
theorem part26 (x y z u w : BitVec 32) {Q : _ → sProp 𝕄} :
    records m K ⊢ iprop(RecvSt m c 3 -∗ (RecvSt m c 7 -∗ ∀ a, Q a)
      -∗ wp frame (wpE (defs₀ (F := F)) 𝒱₀ (c : Thread nD τ) none) Set.univ (k0_part26 (F := F) qM (Memref.isWhole_whole _) kM (Memref.isWhole_whole _) vM (Memref.isWhole_whole _) tM (Memref.isWhole_whole _) nM (Memref.isWhole_whole _) outM (Memref.isWhole_whole _) ownM (Memref.isWhole_whole _) commM (Memref.isWhole_whole _) cc0_scratch2 cc0_scratch3 x y z u w) Q) := by
  rw [k0_part26_eq_skeleton]; unfold k0_part26_skel
  simp only [semSignalWord, semWaitWord, Prog.lift, Prog.bind_op, Prog.bind_ret, Prog.pure_eq_ret, wp_deviceId]
  iintro #HR H Hk
  iapply (recv_step m K c (n := 3) (by decide)) $$ HR H; iintro H
  iapply (recv_step m K c (n := 4) (by decide)) $$ HR H; iintro H
  iapply (recv_step m K c (n := 5) (by decide)) $$ HR H; iintro H
  iapply (recv_step m K c (n := 6) (by decide)) $$ HR H; iintro H
  rw [wp_ret]; imodintro; iapply Hk $$ H

/-- The waits for blocks 7 to 10. -/
theorem part27 (x y z u w : BitVec 32) {Q : _ → sProp 𝕄} :
    records m K ⊢ iprop(RecvSt m c 7 -∗ (RecvSt m c 11 -∗ ∀ a, Q a)
      -∗ wp frame (wpE (defs₀ (F := F)) 𝒱₀ (c : Thread nD τ) none) Set.univ (k0_part27 (F := F) qM (Memref.isWhole_whole _) kM (Memref.isWhole_whole _) vM (Memref.isWhole_whole _) tM (Memref.isWhole_whole _) nM (Memref.isWhole_whole _) outM (Memref.isWhole_whole _) ownM (Memref.isWhole_whole _) commM (Memref.isWhole_whole _) cc0_scratch2 cc0_scratch3 x y z u w) Q) := by
  rw [k0_part27_eq_skeleton]; unfold k0_part27_skel
  simp only [semSignalWord, semWaitWord, Prog.lift, Prog.bind_op, Prog.bind_ret, Prog.pure_eq_ret, wp_deviceId]
  iintro #HR H Hk
  iapply (recv_step m K c (n := 7) (by decide)) $$ HR H; iintro H
  iapply (recv_step m K c (n := 8) (by decide)) $$ HR H; iintro H
  iapply (recv_step m K c (n := 9) (by decide)) $$ HR H; iintro H
  iapply (recv_step m K c (n := 10) (by decide)) $$ HR H; iintro H
  rw [wp_ret]; imodintro; iapply Hk $$ H

/-- The waits for blocks 11 to 14. -/
theorem part28 (x y z u w : BitVec 32) {Q : _ → sProp 𝕄} :
    records m K ⊢ iprop(RecvSt m c 11 -∗ (RecvSt m c 15 -∗ ∀ a, Q a)
      -∗ wp frame (wpE (defs₀ (F := F)) 𝒱₀ (c : Thread nD τ) none) Set.univ (k0_part28 (F := F) qM (Memref.isWhole_whole _) kM (Memref.isWhole_whole _) vM (Memref.isWhole_whole _) tM (Memref.isWhole_whole _) nM (Memref.isWhole_whole _) outM (Memref.isWhole_whole _) ownM (Memref.isWhole_whole _) commM (Memref.isWhole_whole _) cc0_scratch2 cc0_scratch3 x y z u w) Q) := by
  rw [k0_part28_eq_skeleton]; unfold k0_part28_skel
  simp only [semSignalWord, semWaitWord, Prog.lift, Prog.bind_op, Prog.bind_ret, Prog.pure_eq_ret, wp_deviceId]
  iintro #HR H Hk
  iapply (recv_step m K c (n := 11) (by decide)) $$ HR H; iintro H
  iapply (recv_step m K c (n := 12) (by decide)) $$ HR H; iintro H
  iapply (recv_step m K c (n := 13) (by decide)) $$ HR H; iintro H
  iapply (recv_step m K c (n := 14) (by decide)) $$ HR H; iintro H
  rw [wp_ret]; imodintro; iapply Hk $$ H

/-- The waits for blocks 15 to 18. -/
theorem part29 (x y z u w : BitVec 32) {Q : _ → sProp 𝕄} :
    records m K ⊢ iprop(RecvSt m c 15 -∗ (RecvSt m c 19 -∗ ∀ a, Q a)
      -∗ wp frame (wpE (defs₀ (F := F)) 𝒱₀ (c : Thread nD τ) none) Set.univ (k0_part29 (F := F) qM (Memref.isWhole_whole _) kM (Memref.isWhole_whole _) vM (Memref.isWhole_whole _) tM (Memref.isWhole_whole _) nM (Memref.isWhole_whole _) outM (Memref.isWhole_whole _) ownM (Memref.isWhole_whole _) commM (Memref.isWhole_whole _) cc0_scratch2 cc0_scratch3 x y z u w) Q) := by
  rw [k0_part29_eq_skeleton]; unfold k0_part29_skel
  simp only [semSignalWord, semWaitWord, Prog.lift, Prog.bind_op, Prog.bind_ret, Prog.pure_eq_ret, wp_deviceId]
  iintro #HR H Hk
  iapply (recv_step m K c (n := 15) (by decide)) $$ HR H; iintro H
  iapply (recv_step m K c (n := 16) (by decide)) $$ HR H; iintro H
  iapply (recv_step m K c (n := 17) (by decide)) $$ HR H; iintro H
  iapply (recv_step m K c (n := 18) (by decide)) $$ HR H; iintro H
  rw [wp_ret]; imodintro; iapply Hk $$ H

/-- The waits for blocks 19 to 22. -/
theorem part30 (x y z u w : BitVec 32) {Q : _ → sProp 𝕄} :
    records m K ⊢ iprop(RecvSt m c 19 -∗ (RecvSt m c 23 -∗ ∀ a, Q a)
      -∗ wp frame (wpE (defs₀ (F := F)) 𝒱₀ (c : Thread nD τ) none) Set.univ (k0_part30 (F := F) qM (Memref.isWhole_whole _) kM (Memref.isWhole_whole _) vM (Memref.isWhole_whole _) tM (Memref.isWhole_whole _) nM (Memref.isWhole_whole _) outM (Memref.isWhole_whole _) ownM (Memref.isWhole_whole _) commM (Memref.isWhole_whole _) cc0_scratch2 cc0_scratch3 x y z u w) Q) := by
  rw [k0_part30_eq_skeleton]; unfold k0_part30_skel
  simp only [semSignalWord, semWaitWord, Prog.lift, Prog.bind_op, Prog.bind_ret, Prog.pure_eq_ret, wp_deviceId]
  iintro #HR H Hk
  iapply (recv_step m K c (n := 19) (by decide)) $$ HR H; iintro H
  iapply (recv_step m K c (n := 20) (by decide)) $$ HR H; iintro H
  iapply (recv_step m K c (n := 21) (by decide)) $$ HR H; iintro H
  iapply (recv_step m K c (n := 22) (by decide)) $$ HR H; iintro H
  rw [wp_ret]; imodintro; iapply Hk $$ H

/-- The waits for blocks 23 to 26. -/
theorem part31 (x y z u w : BitVec 32) {Q : _ → sProp 𝕄} :
    records m K ⊢ iprop(RecvSt m c 23 -∗ (RecvSt m c 27 -∗ ∀ a, Q a)
      -∗ wp frame (wpE (defs₀ (F := F)) 𝒱₀ (c : Thread nD τ) none) Set.univ (k0_part31 (F := F) qM (Memref.isWhole_whole _) kM (Memref.isWhole_whole _) vM (Memref.isWhole_whole _) tM (Memref.isWhole_whole _) nM (Memref.isWhole_whole _) outM (Memref.isWhole_whole _) ownM (Memref.isWhole_whole _) commM (Memref.isWhole_whole _) cc0_scratch2 cc0_scratch3 x y z u w) Q) := by
  rw [k0_part31_eq_skeleton]; unfold k0_part31_skel
  simp only [semSignalWord, semWaitWord, Prog.lift, Prog.bind_op, Prog.bind_ret, Prog.pure_eq_ret, wp_deviceId]
  iintro #HR H Hk
  iapply (recv_step m K c (n := 23) (by decide)) $$ HR H; iintro H
  iapply (recv_step m K c (n := 24) (by decide)) $$ HR H; iintro H
  iapply (recv_step m K c (n := 25) (by decide)) $$ HR H; iintro H
  iapply (recv_step m K c (n := 26) (by decide)) $$ HR H; iintro H
  rw [wp_ret]; imodintro; iapply Hk $$ H

/-- The waits for blocks 27 to 30. -/
theorem part32 (x y z u : BitVec 32) {Q : _ → sProp 𝕄} :
    records m K ⊢ iprop(RecvSt m c 27 -∗ (RecvSt m c 31 -∗ Q ⟨⟩)
      -∗ wp frame (wpE (defs₀ (F := F)) 𝒱₀ (c : Thread nD τ) none) Set.univ (k0_part32 (F := F) qM (Memref.isWhole_whole _) kM (Memref.isWhole_whole _) vM (Memref.isWhole_whole _) tM (Memref.isWhole_whole _) nM (Memref.isWhole_whole _) outM (Memref.isWhole_whole _) ownM (Memref.isWhole_whole _) commM (Memref.isWhole_whole _) cc0_scratch2 cc0_scratch3 x y z u) Q) := by
  rw [k0_part32_eq_skeleton]; unfold k0_part32_skel
  simp only [semSignalWord, semWaitWord, Prog.lift, Prog.bind_op, Prog.bind_ret, Prog.pure_eq_ret, wp_deviceId]
  iintro #HR H Hk
  iapply (recv_step m K c (n := 27) (by decide)) $$ HR H; iintro H
  iapply (recv_step m K c (n := 28) (by decide)) $$ HR H; iintro H
  iapply (recv_step m K c (n := 29) (by decide)) $$ HR H; iintro H
  iapply (recv_step m K c (n := 30) (by decide)) $$ HR H; iintro H
  rw [wp_ret]; imodintro; iapply Hk $$ H

/-- The waits for shares 0 to 4. -/
theorem part33 {Q : _ → sProp 𝕄} :
    records m K ⊢ iprop(BackSt m c 0 -∗ (BackSt m c 5 -∗ Q ⟨⟩)
      -∗ wp frame (wpE (defs₀ (F := F)) 𝒱₀ (c : Thread nD τ) none) Set.univ (k0_part33 (F := F) qM (Memref.isWhole_whole _) kM (Memref.isWhole_whole _) vM (Memref.isWhole_whole _) tM (Memref.isWhole_whole _) nM (Memref.isWhole_whole _) outM (Memref.isWhole_whole _) ownM (Memref.isWhole_whole _) commM (Memref.isWhole_whole _) cc0_scratch2 cc0_scratch3) Q) := by
  rw [k0_part33_eq_skeleton]; unfold k0_part33_skel
  simp only [semSignalWord, semWaitWord, Prog.lift, Prog.bind_op, Prog.bind_ret, Prog.pure_eq_ret, wp_deviceId]
  iintro #HR H Hk
  iapply (back_step m K c (n := 0) (by decide)) $$ HR H; iintro H
  iapply (back_step m K c (n := 1) (by decide)) $$ HR H; iintro H
  iapply (back_step m K c (n := 2) (by decide)) $$ HR H; iintro H
  iapply (back_step m K c (n := 3) (by decide)) $$ HR H; iintro H
  iapply (back_step m K c (n := 4) (by decide)) $$ HR H; iintro H
  rw [wp_ret]; imodintro; iapply Hk $$ H

/-- The waits for shares 5 to 9. -/
theorem part34 {Q : _ → sProp 𝕄} :
    records m K ⊢ iprop(BackSt m c 5 -∗ (BackSt m c 10 -∗ Q ⟨⟩)
      -∗ wp frame (wpE (defs₀ (F := F)) 𝒱₀ (c : Thread nD τ) none) Set.univ (k0_part34 (F := F) qM (Memref.isWhole_whole _) kM (Memref.isWhole_whole _) vM (Memref.isWhole_whole _) tM (Memref.isWhole_whole _) nM (Memref.isWhole_whole _) outM (Memref.isWhole_whole _) ownM (Memref.isWhole_whole _) commM (Memref.isWhole_whole _) cc0_scratch2 cc0_scratch3) Q) := by
  rw [k0_part34_eq_skeleton]; unfold k0_part34_skel
  simp only [semSignalWord, semWaitWord, Prog.lift, Prog.bind_op, Prog.bind_ret, Prog.pure_eq_ret, wp_deviceId]
  iintro #HR H Hk
  iapply (back_step m K c (n := 5) (by decide)) $$ HR H; iintro H
  iapply (back_step m K c (n := 6) (by decide)) $$ HR H; iintro H
  iapply (back_step m K c (n := 7) (by decide)) $$ HR H; iintro H
  iapply (back_step m K c (n := 8) (by decide)) $$ HR H; iintro H
  iapply (back_step m K c (n := 9) (by decide)) $$ HR H; iintro H
  rw [wp_ret]; imodintro; iapply Hk $$ H

/-- The waits for shares 10 to 14. -/
theorem part35 {Q : _ → sProp 𝕄} :
    records m K ⊢ iprop(BackSt m c 10 -∗ (BackSt m c 15 -∗ Q ⟨⟩)
      -∗ wp frame (wpE (defs₀ (F := F)) 𝒱₀ (c : Thread nD τ) none) Set.univ (k0_part35 (F := F) qM (Memref.isWhole_whole _) kM (Memref.isWhole_whole _) vM (Memref.isWhole_whole _) tM (Memref.isWhole_whole _) nM (Memref.isWhole_whole _) outM (Memref.isWhole_whole _) ownM (Memref.isWhole_whole _) commM (Memref.isWhole_whole _) cc0_scratch2 cc0_scratch3) Q) := by
  rw [k0_part35_eq_skeleton]; unfold k0_part35_skel
  simp only [semSignalWord, semWaitWord, Prog.lift, Prog.bind_op, Prog.bind_ret, Prog.pure_eq_ret, wp_deviceId]
  iintro #HR H Hk
  iapply (back_step m K c (n := 10) (by decide)) $$ HR H; iintro H
  iapply (back_step m K c (n := 11) (by decide)) $$ HR H; iintro H
  iapply (back_step m K c (n := 12) (by decide)) $$ HR H; iintro H
  iapply (back_step m K c (n := 13) (by decide)) $$ HR H; iintro H
  iapply (back_step m K c (n := 14) (by decide)) $$ HR H; iintro H
  rw [wp_ret]; imodintro; iapply Hk $$ H

/-- The waits for shares 15 to 19. -/
theorem part36 {Q : _ → sProp 𝕄} :
    records m K ⊢ iprop(BackSt m c 15 -∗ (BackSt m c 20 -∗ Q ⟨⟩)
      -∗ wp frame (wpE (defs₀ (F := F)) 𝒱₀ (c : Thread nD τ) none) Set.univ (k0_part36 (F := F) qM (Memref.isWhole_whole _) kM (Memref.isWhole_whole _) vM (Memref.isWhole_whole _) tM (Memref.isWhole_whole _) nM (Memref.isWhole_whole _) outM (Memref.isWhole_whole _) ownM (Memref.isWhole_whole _) commM (Memref.isWhole_whole _) cc0_scratch2 cc0_scratch3) Q) := by
  rw [k0_part36_eq_skeleton]; unfold k0_part36_skel
  simp only [semSignalWord, semWaitWord, Prog.lift, Prog.bind_op, Prog.bind_ret, Prog.pure_eq_ret, wp_deviceId]
  iintro #HR H Hk
  iapply (back_step m K c (n := 15) (by decide)) $$ HR H; iintro H
  iapply (back_step m K c (n := 16) (by decide)) $$ HR H; iintro H
  iapply (back_step m K c (n := 17) (by decide)) $$ HR H; iintro H
  iapply (back_step m K c (n := 18) (by decide)) $$ HR H; iintro H
  iapply (back_step m K c (n := 19) (by decide)) $$ HR H; iintro H
  rw [wp_ret]; imodintro; iapply Hk $$ H

/-- The waits for shares 20 to 24. -/
theorem part37 {Q : _ → sProp 𝕄} :
    records m K ⊢ iprop(BackSt m c 20 -∗ (BackSt m c 25 -∗ Q ⟨⟩)
      -∗ wp frame (wpE (defs₀ (F := F)) 𝒱₀ (c : Thread nD τ) none) Set.univ (k0_part37 (F := F) qM (Memref.isWhole_whole _) kM (Memref.isWhole_whole _) vM (Memref.isWhole_whole _) tM (Memref.isWhole_whole _) nM (Memref.isWhole_whole _) outM (Memref.isWhole_whole _) ownM (Memref.isWhole_whole _) commM (Memref.isWhole_whole _) cc0_scratch2 cc0_scratch3) Q) := by
  rw [k0_part37_eq_skeleton]; unfold k0_part37_skel
  simp only [semSignalWord, semWaitWord, Prog.lift, Prog.bind_op, Prog.bind_ret, Prog.pure_eq_ret, wp_deviceId]
  iintro #HR H Hk
  iapply (back_step m K c (n := 20) (by decide)) $$ HR H; iintro H
  iapply (back_step m K c (n := 21) (by decide)) $$ HR H; iintro H
  iapply (back_step m K c (n := 22) (by decide)) $$ HR H; iintro H
  iapply (back_step m K c (n := 23) (by decide)) $$ HR H; iintro H
  iapply (back_step m K c (n := 24) (by decide)) $$ HR H; iintro H
  rw [wp_ret]; imodintro; iapply Hk $$ H

/-- The waits for shares 25 to 29. -/
theorem part38 {Q : _ → sProp 𝕄} :
    records m K ⊢ iprop(BackSt m c 25 -∗ (BackSt m c 30 -∗ Q ⟨⟩)
      -∗ wp frame (wpE (defs₀ (F := F)) 𝒱₀ (c : Thread nD τ) none) Set.univ (k0_part38 (F := F) qM (Memref.isWhole_whole _) kM (Memref.isWhole_whole _) vM (Memref.isWhole_whole _) tM (Memref.isWhole_whole _) nM (Memref.isWhole_whole _) outM (Memref.isWhole_whole _) ownM (Memref.isWhole_whole _) commM (Memref.isWhole_whole _) cc0_scratch2 cc0_scratch3) Q) := by
  rw [k0_part38_eq_skeleton]; unfold k0_part38_skel
  simp only [semSignalWord, semWaitWord, Prog.lift, Prog.bind_op, Prog.bind_ret, Prog.pure_eq_ret, wp_deviceId]
  iintro #HR H Hk
  iapply (back_step m K c (n := 25) (by decide)) $$ HR H; iintro H
  iapply (back_step m K c (n := 26) (by decide)) $$ HR H; iintro H
  iapply (back_step m K c (n := 27) (by decide)) $$ HR H; iintro H
  iapply (back_step m K c (n := 28) (by decide)) $$ HR H; iintro H
  iapply (back_step m K c (n := 29) (by decide)) $$ HR H; iintro H
  rw [wp_ret]; imodintro; iapply Hk $$ H

/-- The last transfer and the waits for blocks 0 to 2. -/
theorem part25 (x y z u : BitVec 32) {Q : _ → sProp 𝕄} :
    records m K ⊢ iprop(SendSt m c 30 -∗ (bigSep Finset.univ fun s => recvItem c s) -∗ ((RecvSt m c 3 ∗ bigSep Finset.univ fun s => cred (tallyAt (sendCell c s) () N)) -∗ ∀ a, Q a)
      -∗ wp frame (wpE (defs₀ (F := F)) 𝒱₀ (c : Thread nD τ) none) Set.univ (k0_part25 (F := F) qM (Memref.isWhole_whole _) kM (Memref.isWhole_whole _) vM (Memref.isWhole_whole _) tM (Memref.isWhole_whole _) nM (Memref.isWhole_whole _) outM (Memref.isWhole_whole _) ownM (Memref.isWhole_whole _) commM (Memref.isWhole_whole _) cc0_scratch2 cc0_scratch3 c x y z u) Q) := by
  rw [k0_part25_eq_skeleton]; unfold k0_part25_skel
  simp only [semSignalWord, semWaitWord, Prog.lift, Prog.bind_op, Prog.bind_ret, Prog.pure_eq_ret, wp_deviceId]
  iintro #HR H Hr Hk
  iapply (send_step m K c (n := 30) (by decide) _ (Fin.ext (k0_dev62_eq c))) $$ HR H; iintro H
  ihave H := (recv_intro m c) $$ [H Hr]
  · isplitl [H]; · iexact H
    iexact Hr
  icases H with ⟨H, Hc⟩
  iapply (recv_step m K c (n := 0) (by decide)) $$ HR H; iintro H
  iapply (recv_step m K c (n := 1) (by decide)) $$ HR H; iintro H
  iapply (recv_step m K c (n := 2) (by decide)) $$ HR H; iintro H
  rw [wp_ret]; imodintro; iapply Hk $$ [H Hc]
  isplitl [H]; · iexact H
  iexact Hc

end Transfers

end Cert.KernelIdeal.Exchange

end
-- ==== Proof.KernelIdeal.Gather.lean ====
/-
The loads of the blocks that arrived.
-/
module

public import proofs.«01_k».proof.Proof.KernelIdeal.Arrive

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Gather

variable (K : Dev nD × CK → ℕ) (c : Dev nD)

/-- The own block, complete; the landing buffer, full. -/
def ownAll : sProp 𝕄 := iprop(((c : Thread nD τ).loc cc0_scratch0) ↦{fullShare} ownF m c)
def commAll : sProp 𝕄 := iprop(((c : Thread nD τ).loc cc0_scratch1) ↦{fullShare} commF m c)

/-- Slot `s` of the full landing buffer, as it is loaded. -/
def slotRaw (s : Fin 31) : Vec F S1x8x8x128 .f32 := commM.view.readAt (Elt F) (slotR s).toLoadRect (commF m c)

/-- Loading slot `s`. -/
theorem load_slot {n : ℕ} (hn : n < 31) {hl} {α : Type} {Q : α → sProp 𝕄} {k : _ → Prog (TpuEff nD τ sig (Elt F) Λ₀ .tc) α} :
    commAll m c ⊢ iprop((commAll m c -∗ wp frame (wpE (defs₀ (F := F)) 𝒱₀ (c : Thread nD τ) none) Set.univ (k (slotRaw m c ⟨n, hn⟩)) Q)
      -∗ wp frame (wpE (defs₀ (F := F)) 𝒱₀ (c : Thread nD τ) none) Set.univ (.op (.load commM (slotR ⟨n, hn⟩).toLoadRect hl) k) Q) := by
  unfold commAll
  exact wp_load 𝒱₀ (c : Thread nD τ) none Set.univ (m := commM) (Finset.subset_univ _)

/-- Loading the own block. -/
theorem load_own {hl} {α : Type} {Q : α → sProp 𝕄} {k : _ → Prog (TpuEff nD τ sig (Elt F) Λ₀ .tc) α} :
    ownAll m c ⊢ iprop((ownAll m c -∗ wp frame (wpE (defs₀ (F := F)) 𝒱₀ (c : Thread nD τ) none) Set.univ (k (ownF m c)) Q)
      -∗ wp frame (wpE (defs₀ (F := F)) 𝒱₀ (c : Thread nD τ) none) Set.univ (.op (.load ownM (Rect.unit (s := S8x8x128) ![0, 0, 0] S8x8x128.size inb_S8x8x128_S8x8x128_0_0_0).toLoadRect hl) k) Q) := by
  unfold ownAll
  iintro H Hk
  iapply (wp_load 𝒱₀ (c : Thread nD τ) none Set.univ (m := ownM) (Finset.subset_univ _)) $$ H; iintro H
  rw [show ownM.view.readAt (Elt F) (Rect.unit (s := S8x8x128) ![0, 0, 0] S8x8x128.size inb_S8x8x128_S8x8x128_0_0_0).toLoadRect (ownF m c) = ownF m c from
    Memref.readAt_unit_zero (Elt F) cc0_scratch0 (by decide) _ (ownF m c)]
  iapply Hk $$ H

/-- The last wait; the own block and slots 0 to 7. -/
theorem part39 {Q : _ → sProp 𝕄} :
    records m K ⊢ iprop(BackSt m c 30 -∗ ownPts m c kept -∗ commAll m c -∗ ((owesE c 0 ∗ ownAll m c ∗ bigSep Finset.univ fun s => atPos ER (sendCell c s) (0 + 1) ∅ 0) -∗ commAll m c -∗ Q ⟨ownF m c, k0_pay34 (slotRaw m c ⟨0, by decide⟩), k0_pay35 (slotRaw m c ⟨1, by decide⟩), k0_pay36 (slotRaw m c ⟨2, by decide⟩), k0_pay37 (slotRaw m c ⟨3, by decide⟩), k0_pay38 (slotRaw m c ⟨4, by decide⟩), k0_pay39 (slotRaw m c ⟨5, by decide⟩), k0_pay40 (slotRaw m c ⟨6, by decide⟩), k0_pay41 (slotRaw m c ⟨7, by decide⟩)⟩)
      -∗ wp frame (wpE (defs₀ (F := F)) 𝒱₀ (c : Thread nD τ) none) Set.univ (k0_part39 (F := F) qM (Memref.isWhole_whole _) kM (Memref.isWhole_whole _) vM (Memref.isWhole_whole _) tM (Memref.isWhole_whole _) nM (Memref.isWhole_whole _) outM (Memref.isWhole_whole _) ownM (Memref.isWhole_whole _) commM (Memref.isWhole_whole _) cc0_scratch2 cc0_scratch3) Q) := by
  rw [k0_part39_eq_skeleton]; unfold k0_part39_skel
  simp only [semSignalWord, semWaitWord, Prog.lift, Prog.bind_op, Prog.bind_ret, Prog.pure_eq_ret, wp_deviceId]
  iintro #HR H Hown Hs Hk
  iapply (back_step m K c (n := 30) (by decide)) $$ HR H; iintro H
  ihave H := (back_done m c) $$ [H Hown]
  · isplitl [H]; · iexact H
    iexact Hown
  icases H with ⟨HO, Hown, Hat⟩
  ihave Hown := (Entails.of_eq (show (((c : Thread nD τ).loc cc0_scratch0) ↦{fullShare} ownF m c : sProp 𝕄) = ownAll m c from rfl)) $$ Hown
  iapply (load_own m c) $$ Hown; iintro Hown
  iapply (load_slot m c (n := 0) (by decide)) $$ Hs; iintro Hs
  iapply (load_slot m c (n := 1) (by decide)) $$ Hs; iintro Hs
  iapply (load_slot m c (n := 2) (by decide)) $$ Hs; iintro Hs
  iapply (load_slot m c (n := 3) (by decide)) $$ Hs; iintro Hs
  iapply (load_slot m c (n := 4) (by decide)) $$ Hs; iintro Hs
  iapply (load_slot m c (n := 5) (by decide)) $$ Hs; iintro Hs
  iapply (load_slot m c (n := 6) (by decide)) $$ Hs; iintro Hs
  iapply (load_slot m c (n := 7) (by decide)) $$ Hs; iintro Hs
  rw [wp_ret]; imodintro; iapply Hk $$ [HO Hown Hat] Hs
  isplitl [HO]; · iexact HO
  isplitl [Hown]; · iexact Hown
  iexact Hat

/-- Slots 8 to 17. -/
theorem part40 {Q : _ → sProp 𝕄} :
    commAll m c ⊢ iprop((commAll m c -∗ Q ⟨k0_pay42 (slotRaw m c ⟨8, by decide⟩), k0_pay43 (slotRaw m c ⟨9, by decide⟩), k0_pay44 (slotRaw m c ⟨10, by decide⟩), k0_pay45 (slotRaw m c ⟨11, by decide⟩), k0_pay46 (slotRaw m c ⟨12, by decide⟩), k0_pay47 (slotRaw m c ⟨13, by decide⟩), k0_pay48 (slotRaw m c ⟨14, by decide⟩), k0_pay49 (slotRaw m c ⟨15, by decide⟩), k0_pay50 (slotRaw m c ⟨16, by decide⟩), k0_pay51 (slotRaw m c ⟨17, by decide⟩)⟩)
      -∗ wp frame (wpE (defs₀ (F := F)) 𝒱₀ (c : Thread nD τ) none) Set.univ (k0_part40 (F := F) qM (Memref.isWhole_whole _) kM (Memref.isWhole_whole _) vM (Memref.isWhole_whole _) tM (Memref.isWhole_whole _) nM (Memref.isWhole_whole _) outM (Memref.isWhole_whole _) ownM (Memref.isWhole_whole _) commM (Memref.isWhole_whole _) cc0_scratch2 cc0_scratch3) Q) := by
  rw [k0_part40_eq_skeleton]; unfold k0_part40_skel
  simp only [semSignalWord, semWaitWord, Prog.lift, Prog.bind_op, Prog.bind_ret, Prog.pure_eq_ret, wp_deviceId]
  iintro Hs  Hk
  iapply (load_slot m c (n := 8) (by decide)) $$ Hs; iintro Hs
  iapply (load_slot m c (n := 9) (by decide)) $$ Hs; iintro Hs
  iapply (load_slot m c (n := 10) (by decide)) $$ Hs; iintro Hs
  iapply (load_slot m c (n := 11) (by decide)) $$ Hs; iintro Hs
  iapply (load_slot m c (n := 12) (by decide)) $$ Hs; iintro Hs
  iapply (load_slot m c (n := 13) (by decide)) $$ Hs; iintro Hs
  iapply (load_slot m c (n := 14) (by decide)) $$ Hs; iintro Hs
  iapply (load_slot m c (n := 15) (by decide)) $$ Hs; iintro Hs
  iapply (load_slot m c (n := 16) (by decide)) $$ Hs; iintro Hs
  iapply (load_slot m c (n := 17) (by decide)) $$ Hs; iintro Hs
  rw [wp_ret]; imodintro; iapply Hk $$ Hs

/-- Slots 18 to 27. -/
theorem part41 {Q : _ → sProp 𝕄} :
    commAll m c ⊢ iprop((commAll m c -∗ Q ⟨k0_pay52 (slotRaw m c ⟨18, by decide⟩), k0_pay53 (slotRaw m c ⟨19, by decide⟩), k0_pay54 (slotRaw m c ⟨20, by decide⟩), k0_pay55 (slotRaw m c ⟨21, by decide⟩), k0_pay56 (slotRaw m c ⟨22, by decide⟩), k0_pay57 (slotRaw m c ⟨23, by decide⟩), k0_pay58 (slotRaw m c ⟨24, by decide⟩), k0_pay59 (slotRaw m c ⟨25, by decide⟩), k0_pay60 (slotRaw m c ⟨26, by decide⟩), k0_pay61 (slotRaw m c ⟨27, by decide⟩)⟩)
      -∗ wp frame (wpE (defs₀ (F := F)) 𝒱₀ (c : Thread nD τ) none) Set.univ (k0_part41 (F := F) qM (Memref.isWhole_whole _) kM (Memref.isWhole_whole _) vM (Memref.isWhole_whole _) tM (Memref.isWhole_whole _) nM (Memref.isWhole_whole _) outM (Memref.isWhole_whole _) ownM (Memref.isWhole_whole _) commM (Memref.isWhole_whole _) cc0_scratch2 cc0_scratch3) Q) := by
  rw [k0_part41_eq_skeleton]; unfold k0_part41_skel
  simp only [semSignalWord, semWaitWord, Prog.lift, Prog.bind_op, Prog.bind_ret, Prog.pure_eq_ret, wp_deviceId]
  iintro Hs  Hk
  iapply (load_slot m c (n := 18) (by decide)) $$ Hs; iintro Hs
  iapply (load_slot m c (n := 19) (by decide)) $$ Hs; iintro Hs
  iapply (load_slot m c (n := 20) (by decide)) $$ Hs; iintro Hs
  iapply (load_slot m c (n := 21) (by decide)) $$ Hs; iintro Hs
  iapply (load_slot m c (n := 22) (by decide)) $$ Hs; iintro Hs
  iapply (load_slot m c (n := 23) (by decide)) $$ Hs; iintro Hs
  iapply (load_slot m c (n := 24) (by decide)) $$ Hs; iintro Hs
  iapply (load_slot m c (n := 25) (by decide)) $$ Hs; iintro Hs
  iapply (load_slot m c (n := 26) (by decide)) $$ Hs; iintro Hs
  iapply (load_slot m c (n := 27) (by decide)) $$ Hs; iintro Hs
  rw [wp_ret]; imodintro; iapply Hk $$ Hs

/-- Slots 28 to 30, and the maxima over the first 22 blocks. -/
theorem part42 (v1023 v1025 v1027 v1029 v1031 v1033 v1035 v1037 v1039 v1041 v1043 v1045 v1047 v1049 v1051 v1053 v1055 v1057 v1059 v1061 v1063 v1065 : FVec F S8x8x128 .f32) {Q : _ → sProp 𝕄} :
    commAll m c ⊢ iprop((commAll m c -∗ Q ⟨k0_pay62 (slotRaw m c ⟨28, by decide⟩), k0_pay63 (slotRaw m c ⟨29, by decide⟩), k0_pay64 (slotRaw m c ⟨30, by decide⟩), k0_pay65 v1023 v1025 v1027 v1029 v1031 v1033 v1035 v1037 v1039 v1041 v1043 v1045 v1047 v1049 v1051 v1053 v1055 v1057 v1059 v1061 v1063 v1065⟩)
      -∗ wp frame (wpE (defs₀ (F := F)) 𝒱₀ (c : Thread nD τ) none) Set.univ (k0_part42 (F := F) qM (Memref.isWhole_whole _) kM (Memref.isWhole_whole _) vM (Memref.isWhole_whole _) tM (Memref.isWhole_whole _) nM (Memref.isWhole_whole _) outM (Memref.isWhole_whole _) ownM (Memref.isWhole_whole _) commM (Memref.isWhole_whole _) cc0_scratch2 cc0_scratch3 v1023 v1025 v1027 v1029 v1031 v1033 v1035 v1037 v1039 v1041 v1043 v1045 v1047 v1049 v1051 v1053 v1055 v1057 v1059 v1061 v1063 v1065) Q) := by
  rw [k0_part42_eq_skeleton]; unfold k0_part42_skel
  simp only [semSignalWord, semWaitWord, Prog.lift, Prog.bind_op, Prog.bind_ret, Prog.pure_eq_ret, wp_deviceId]
  iintro Hs  Hk
  iapply (load_slot m c (n := 28) (by decide)) $$ Hs; iintro Hs
  iapply (load_slot m c (n := 29) (by decide)) $$ Hs; iintro Hs
  iapply (load_slot m c (n := 30) (by decide)) $$ Hs; iintro Hs
  rw [wp_ret]; imodintro; iapply Hk $$ Hs

end Gather

end Cert.KernelIdeal.Exchange

end
-- ==== Proof.KernelIdeal.Exchange.lean ====
/-
The exchange as a whole: the parts in order.
-/
module

public import proofs.«01_k».proof.Proof.KernelIdeal.Signals
public import proofs.«01_k».proof.Proof.KernelIdeal.Heads
public import proofs.«01_k».proof.Proof.KernelIdeal.Transfers
public import proofs.«01_k».proof.Proof.KernelIdeal.Gather

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The final fold -/

/-- The running maximum, weight and weighted sum over all 32 blocks but the last steps, from the own block and the 31 others. -/
def foldRes (v1023 : FVec F S8x8x128 .f32) (b : Fin 31 → FVec F S8x8x128 .f32) :
    Σ' (v1081 : FVec F S8x8x128 .f32) (v1083 : FVec F S8x8x128 .f32) (v1085 : FVec F S8x8x128 .f32) (v1148 : FVec F S8x8x1 .f32) (v1430 : FVec F S8x8x1 .f32) (v1437 : FVec F S8x8x64 .f32), FVec F S8x8x1 .f32 :=
  let v1025 := b ⟨0, by decide⟩
  let v1027 := b ⟨1, by decide⟩
  let v1029 := b ⟨2, by decide⟩
  let v1031 := b ⟨3, by decide⟩
  let v1033 := b ⟨4, by decide⟩
  let v1035 := b ⟨5, by decide⟩
  let v1037 := b ⟨6, by decide⟩
  let v1039 := b ⟨7, by decide⟩
  let v1041 := b ⟨8, by decide⟩
  let v1043 := b ⟨9, by decide⟩
  let v1045 := b ⟨10, by decide⟩
  let v1047 := b ⟨11, by decide⟩
  let v1049 := b ⟨12, by decide⟩
  let v1051 := b ⟨13, by decide⟩
  let v1053 := b ⟨14, by decide⟩
  let v1055 := b ⟨15, by decide⟩
  let v1057 := b ⟨16, by decide⟩
  let v1059 := b ⟨17, by decide⟩
  let v1061 := b ⟨18, by decide⟩
  let v1063 := b ⟨19, by decide⟩
  let v1065 := b ⟨20, by decide⟩
  let v1067 := b ⟨21, by decide⟩
  let v1069 := b ⟨22, by decide⟩
  let v1071 := b ⟨23, by decide⟩
  let v1073 := b ⟨24, by decide⟩
  let v1075 := b ⟨25, by decide⟩
  let v1077 := b ⟨26, by decide⟩
  let v1079 := b ⟨27, by decide⟩
  let v1081 := b ⟨28, by decide⟩
  let v1083 := b ⟨29, by decide⟩
  let v1085 := b ⟨30, by decide⟩
  let v1128 : FVec F S8x8x1 .f32 := k0_pay65 v1023 v1025 v1027 v1029 v1031 v1033 v1035 v1037 v1039 v1041 v1043 v1045 v1047 v1049 v1051 v1053 v1055 v1057 v1059 v1061 v1063 v1065
  let v1148 := k0_pay66 v1067 v1069 v1071 v1073 v1075 v1077 v1079 v1081 v1083 v1085 v1128
  let v1177 := k0_pay70 v1023 v1025 v1027 v1067 v1069 v1071 v1073 v1075 v1077 v1079 v1081 v1083 v1085 v1128
  let v1180 := k0_pay71 v1023 v1025 v1027 v1067 v1069 v1071 v1073 v1075 v1077 v1079 v1081 v1083 v1085 v1128
  let v1183 := k0_pay72 v1029 v1067 v1069 v1071 v1073 v1075 v1077 v1079 v1081 v1083 v1085 v1128
  let v1186 := k0_pay73 v1029 v1067 v1069 v1071 v1073 v1075 v1077 v1079 v1081 v1083 v1085 v1128
  let v1237 := k0_pay79 v1031 v1033 v1035 v1037 v1039 v1148 v1177 v1186
  let v1240 := k0_pay80 v1029 v1031 v1033 v1035 v1037 v1039 v1148 v1180 v1183
  let v1243 := k0_pay81 v1041 v1148
  let v1246 := k0_pay82 v1041 v1148
  let v1297 := k0_pay88 v1043 v1045 v1047 v1049 v1051 v1148 v1237 v1246
  let v1300 := k0_pay89 v1041 v1043 v1045 v1047 v1049 v1051 v1148 v1240 v1243
  let v1303 := k0_pay90 v1053 v1148
  let v1306 := k0_pay91 v1053 v1148
  let v1357 := k0_pay97 v1055 v1057 v1059 v1061 v1063 v1148 v1297 v1306
  let v1360 := k0_pay98 v1053 v1055 v1057 v1059 v1061 v1063 v1148 v1300 v1303
  let v1363 := k0_pay99 v1065 v1148
  let v1366 := k0_pay100 v1065 v1148
  let v1417 := k0_pay106 v1067 v1069 v1071 v1073 v1075 v1148 v1357 v1366
  let v1420 := k0_pay107 v1065 v1067 v1069 v1071 v1073 v1075 v1148 v1360 v1363
  let v1423 := k0_pay108 v1077 v1148
  let v1426 := k0_pay109 v1077 v1148
  ⟨v1081, v1083, v1085, v1148, k0_pay110 v1077 v1420 v1423, k0_pay112 v1079 v1148 v1417 v1426, k0_pay113 v1079 v1148⟩

/-- The kernel's result from the own block and the 31 others. -/
def foldOut (o : FVec F S8x8x128 .f32) (b : Fin 31 → FVec F S8x8x128 .f32) : FVec F S8x1x8x64 .f32 :=
  match foldRes o b with
  | ⟨v1081, v1083, v1085, v1148, v1430, v1437, v1439⟩ => k0_pay1 v1081 v1083 v1085 v1148 v1430 v1437 v1439

/-- A slot as it is loaded, without its leading axis of size one. -/
def slotBlk (c : Dev nD) (s : Fin 31) : FVec F S8x8x128 .f32 := shapeCast S8x8x128 (slotRaw m c s) (by decide)

theorem slotBlk_eq (c : Dev nD) (s : Fin 31) : slotBlk m c s = ownF m (bwd c s) := slot_read m c s

/-- The kernel's result on device `c`. -/
def outAt (c : Dev nD) : FVec F S8x1x8x64 .f32 := foldOut (ownF m c) fun s => ownF m (bwd c s)

theorem outAt_eq (c : Dev nD) : outAt m c = foldOut (ownF m c) (slotBlk m c) := by
  unfold outAt; congr 1; funext s; exact (slotBlk_eq m c s).symm

section Whole

variable (K : Dev nD × CK → ℕ) (c : Dev nD)

/-- The staged operands together. -/
def stgs : sProp 𝕄 := iprop(stgQ m c ∗ stgK m c ∗ stgV m c ∗ stgT m c ∗ stgN m c)
/-- What the exchange begins with, and what it ends with. -/
def Begin : sProp 𝕄 :=
  iprop(SigSt c 0 ∗ BarIn c ∗ stgs m c ∗ OwnSt m c 0 ∗ sendToks c ∗ (bigSep Finset.univ fun s => recvItem c s) ∗ bigSep Finset.univ fun s => atPos ER (sendCell c s) 0 ∅ 0)
def Finish : sProp 𝕄 :=
  iprop(owesE c 0 ∗ stgs m c ∗ ownAll m c ∗ commAll m c ∗ atPos ER (barCell c) (0 + 1) ∅ 0
    ∗ (bigSep Finset.univ fun s => atPos ER (sendCell c s) (0 + 1) ∅ 0) ∗ bigSep Finset.univ fun s => atPos ER (recvCell c s) (0 + 1) ∅ 0)

/-- The whole of the exchange, down to the last steps of the fold. -/
theorem part48 {Q : _ → sProp 𝕄} :
    records m K ⊢ iprop(Begin m c -∗ (Finish m c -∗ Q (foldRes (ownF m c) (slotBlk m c)))
      -∗ wp frame (wpE (defs₀ (F := F)) 𝒱₀ (c : Thread nD τ) none) Set.univ (k0_part48 (F := F) qM (Memref.isWhole_whole _) kM (Memref.isWhole_whole _) vM (Memref.isWhole_whole _) tM (Memref.isWhole_whole _) nM (Memref.isWhole_whole _) outM (Memref.isWhole_whole _) ownM (Memref.isWhole_whole _) commM (Memref.isWhole_whole _) cc0_scratch2 cc0_scratch3) Q) := by
  rw [k0_part48_eq_skeleton]; unfold k0_part48_skel Begin Finish stgs
  iintro #HR ⟨H, HB, ⟨Hq, Hk, Hv, Ht, Hn⟩, Hs, Htok, Hri, Hai⟩ Hc
  rw [wp_bind]; iapply (part1 m K c) $$ HR H; iintro H %_ %_; try dsimp only
  rw [wp_bind]; iapply (part2 m K c _ _ _) $$ HR H; iintro H %_ %_; try dsimp only
  rw [wp_bind]; iapply (part3 m K c _ _ _) $$ HR H; iintro H %_ %_; try dsimp only
  rw [wp_bind]; iapply (part4 m K c _ _ _) $$ HR H; iintro H %_ %_; try dsimp only
  rw [wp_bind]; iapply (part5 m K c _ _ _) $$ HR H; iintro H %_ %_; try dsimp only
  rw [wp_bind]; iapply (part6 m K c _ _ _) $$ HR H HB Ht Hn; iintro ⟨HO, HB⟩ Ht Hn; try dsimp only
  unfold BarOut; icases HB with ⟨Hb1, Hb⟩
  rw [wp_bind]; iapply (part7 m c _) $$ Hq Hk Hv; iintro Hq Hk Hv; try dsimp only
  rw [wp_bind]; iapply (part8 m c) $$ Hq Hk Hv Hs; iintro Hq Hk Hv Hs; try dsimp only
  rw [wp_bind]; iapply (part9 m c) $$ Hq Hk Hv Hs; iintro Hq Hk Hv Hs; try dsimp only
  rw [wp_bind]; iapply (part10 m c) $$ Hq Hk Hv Hs; iintro Hq Hk Hv Hs; try dsimp only
  rw [wp_bind]; iapply (part11 m c) $$ Hq Hk Hv Hs; iintro Hq Hk Hv Hs; try dsimp only
  rw [wp_bind]; iapply (part12 m c) $$ Hq Hk Hv Hs; iintro Hq Hk Hv Hs; try dsimp only
  rw [wp_bind]; iapply (part13 m c) $$ Hq Hk Hv Hs; iintro Hq Hk Hv Hs; try dsimp only
  rw [wp_bind]; iapply (part14 m K c _) $$ HR Hs HO Htok Hb; iintro ⟨Hkept, H⟩ %_ %_; try dsimp only
  rw [wp_bind]; iapply (part15 m K c _) $$ HR H; iintro H %_ %_ %_; try dsimp only
  rw [wp_bind]; iapply (part16 m K c _) $$ HR H; iintro H %_ %_ %_; try dsimp only
  rw [wp_bind]; iapply (part17 m K c _) $$ HR H; iintro H %_ %_ %_; try dsimp only
  rw [wp_bind]; iapply (part18 m K c _) $$ HR H; iintro H %_ %_ %_ %_; try dsimp only
  rw [wp_bind]; iapply (part19 m K c _ _ _) $$ HR H; iintro H %_ %_ %_; try dsimp only
  rw [wp_bind]; iapply (part20 m K c _ _) $$ HR H; iintro H %_ %_ %_; try dsimp only
  rw [wp_bind]; iapply (part21 m K c _ _) $$ HR H; iintro H %_ %_ %_; try dsimp only
  rw [wp_bind]; iapply (part22 m K c _) $$ HR H; iintro H %_ %_ %_; try dsimp only
  rw [wp_bind]; iapply (part23 m K c _) $$ HR H; iintro H %_ %_ %_; try dsimp only
  rw [wp_bind]; iapply (part24 m K c _) $$ HR H; iintro H %_ %_ %_; try dsimp only
  rw [wp_bind]; iapply (part25 m K c _ _ _ _) $$ HR H Hri; iintro ⟨H, Hcr⟩ %_; try dsimp only
  rw [wp_bind]; iapply (part26 m K c _ _ _ _ _) $$ HR H; iintro H %_; try dsimp only
  rw [wp_bind]; iapply (part27 m K c _ _ _ _ _) $$ HR H; iintro H %_; try dsimp only
  rw [wp_bind]; iapply (part28 m K c _ _ _ _ _) $$ HR H; iintro H %_; try dsimp only
  rw [wp_bind]; iapply (part29 m K c _ _ _ _ _) $$ HR H; iintro H %_; try dsimp only
  rw [wp_bind]; iapply (part30 m K c _ _ _ _ _) $$ HR H; iintro H %_; try dsimp only
  rw [wp_bind]; iapply (part31 m K c _ _ _ _ _) $$ HR H; iintro H %_; try dsimp only
  rw [wp_bind]; iapply (part32 m K c _ _ _ _) $$ HR H; iintro H; try dsimp only
  ihave H := (back_intro m c) $$ [H Hcr Hai]
  · isplitl [H]; · iexact H
    isplitl [Hcr]; · iexact Hcr
    iexact Hai
  icases H with ⟨H, Hcm, Har⟩
  ihave Hcm := (Entails.of_eq (show (((c : Thread nD τ).loc cc0_scratch1) ↦{fullShare} commF m c : sProp 𝕄) = commAll m c from rfl)) $$ Hcm
  rw [wp_bind]; iapply (part33 m K c) $$ HR H; iintro H; try dsimp only
  rw [wp_bind]; iapply (part34 m K c) $$ HR H; iintro H; try dsimp only
  rw [wp_bind]; iapply (part35 m K c) $$ HR H; iintro H; try dsimp only
  rw [wp_bind]; iapply (part36 m K c) $$ HR H; iintro H; try dsimp only
  rw [wp_bind]; iapply (part37 m K c) $$ HR H; iintro H; try dsimp only
  rw [wp_bind]; iapply (part38 m K c) $$ HR H; iintro H; try dsimp only
  rw [wp_bind]; iapply (part39 m K c) $$ HR H Hkept Hcm; iintro ⟨HO, Hown, Has⟩ Hcm; try dsimp only
  rw [wp_bind]; iapply (part40 m c) $$ Hcm; iintro Hcm; try dsimp only
  rw [wp_bind]; iapply (part41 m c) $$ Hcm; iintro Hcm; try dsimp only
  rw [wp_bind]; iapply (part42 m c _ _ _ _ _ _ _ _ _ _ _ _ _ _ _ _ _ _ _ _ _ _) $$ Hcm; iintro Hcm; try dsimp only
  simp only [k0_part43_eq_skeleton, k0_part43_skel, k0_part44_eq_skeleton, k0_part44_skel, k0_part45_eq_skeleton, k0_part45_skel, k0_part46_eq_skeleton, k0_part46_skel,
    k0_part47_eq_skeleton, k0_part47_skel, Prog.pure_eq_ret, Prog.bind_ret]
  rw [wp_ret]; imodintro
  change Entails' _ (Q (foldRes (ownF m c) (slotBlk m c)))
  iapply Hc $$ [HO Hq Hk Hv Ht Hn Hown Hcm Hb1 Has Har]
  isplitl [HO]; · iexact HO
  isplitl [Hq Hk Hv Ht Hn]
  · isplitl [Hq]; · iexact Hq
    isplitl [Hk]; · iexact Hk
    isplitl [Hv]; · iexact Hv
    isplitl [Ht]; · iexact Ht
    iexact Hn
  isplitl [Hown]; · iexact Hown
  isplitl [Hcm]; · iexact Hcm
  isplitl [Hb1]; · iexact Hb1
  isplitl [Has]; · iexact Has
  iexact Har

end Whole

end Cert.KernelIdeal.Exchange

end
-- ==== Proof.KernelIdeal.Body.lean ====
/-
The kernel's body, whole, and the pipeline's obligation on it.
-/
module

public import proofs.«01_k».proof.Proof.KernelIdeal.Exchange
public import proofs.«01_k».proof.Proof.Gen.KernelIdeal.Launch
public import proofs.«01_k».proof.Proof.Gen.KernelIdeal.Points

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A persistent fact goes to every summand. -/
theorem bigSep_spread {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

section Body

variable (K : Dev nD × CK → ℕ) (c : Dev nD)

/-- The tokens of the signals a device sends. -/
def sigToks : sProp 𝕄 := bigSep Finset.univ fun s => dutyTok ER (barCell (fwd c s)) 0 s.rev
/-- A device's positions at its cells, and the tokens of the duties it pays. -/
def linear : sProp 𝕄 :=
  iprop(atPos ER (barCell c) 0 ∅ 0 ∗ (bigSep Finset.univ fun s => atPos ER (sendCell c s) 0 ∅ 0) ∗ (bigSep Finset.univ fun s => atPos ER (recvCell c s) 0 ∅ 0)
    ∗ sigToks c ∗ sendToks c)
/-- What device `c`'s body starts from. -/
def start : sProp 𝕄 :=
  iprop((∃ K, records m K ∗ linear c) ∗ cred (tallyAt (barCell c) () 31) ∗ (bigSep Finset.univ fun s => cred (tallyAt (recvCell c s) () N)) ∗ levAts L lv)
/-- The two scratch buffers, at some contents. -/
def scratch : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))
def Φ₀ : sProp 𝕄 := iprop(start m c ∗ scratch c)
/-- After the body: the scratch buffers and every one of the exchange's semaphores at zero. -/
def Φ₁ : sProp 𝕄 :=
  iprop(scratch c ∗ (bigSep Finset.univ fun k : Fin 31 ⊕ Fin 31 => semVal (kcell (c, .inr k)) 0) ∗ semVal (barCell c) 0)

/-- The signals' items, from the tokens and the landing buffer cut into slots. -/
theorem sig_intro : iprop(sigToks c ∗ ∃ f : Buf (Elt F) ((c : Thread nD τ).loc cc0_scratch1), ((c : Thread nD τ).loc cc0_scratch1) ↦{fullShare} f)
    ⊢ (bigSep Finset.univ (sigItem c) : sProp 𝕄) := by
  unfold sigItem sigToks
  rw [bigSep_sep']
  iintro ⟨Ht, %f, H⟩
  isplitl [Ht]; · iexact Ht
  ihave H := (Entails.of_eq (comm_slots c f)) $$ H
  ihave H := (Entails.of_eq (bigSep_univ_equiv Fin.revPerm (fun s => (slotPts c s f : sProp 𝕄)))) $$ H
  iapply (show (bigSep Finset.univ fun s : Fin 31 => (slotPts c (Fin.revPerm s) f : sProp 𝕄)) ⊢ bigSep Finset.univ fun s : Fin 31 => iprop(∃ f, slotPts c s.rev f) from
    bigSep_mono fun s _ => show (slotPts c s.rev f : sProp 𝕄) ⊢ iprop(∃ f, slotPts c s.rev f) from by iintro H; iexists f; iexact H) $$ H

theorem begin_intro (W : Waits sig Unit) :
    iprop(linear c ∗ cred (tallyAt (barCell c) () 31) ∗ (bigSep Finset.univ fun s => cred (tallyAt (recvCell c s) () N)) ∗ levAts L lv ∗ scratch c
      ∗ owes (c : Thread nD τ) (O₀ c) W ∗ stgs m c) ⊢ (Begin m c : sProp 𝕄) := by
  unfold linear scratch Begin SigSt OwnSt BarIn recvItem O₀ owesE
  rw [ge_zero, bigSep_sep']
  iintro ⟨⟨HaB, HaS, HaR, Hts, Htx⟩, HcB, HcR, Hlev, ⟨⟨%f, Hown⟩, Hcomm⟩, HO, Hstg⟩
  isplitl [HO Hts Hcomm]
  · isplitl [HO]; · iexists W; iexact HO
    iapply (sig_intro c)
    isplitl [Hts]; · iexact Hts
    iexact Hcomm
  isplitl [HcB HaB Hlev]
  · isplitl [HcB]; · iexact HcB
    isplitl [HaB]; · iexact HaB
    iexact Hlev
  isplitl [Hstg]; · iexact Hstg
  isplitl [Hown]
  · iexists f; isplitr; · (ipureintro; exact upto_zero m c f)
    iexact Hown
  isplitl [Htx]; · iexact Htx
  isplitl [HcR HaR]
  · isplitl [HcR]; · iexact HcR
    iexact HaR
  iexact HaS

/-- A cell at the end of its round closes: its counter at zero is the core's again. -/
theorem close_one (ck : Dev nD × CK) : iprop(records m K ∗ atPos ER (kcell ck) (0 + 1) ∅ 0) ⊢ |={Set.univ}=> semVal (kcell ck) 0 := by
  iintro ⟨#HR, Ha⟩
  iapply (Rounds.cell_close ER (ringRd m) (Set.mem_univ (K ck)) (fun h => h) (R := 0 + 1) (duties_later m (kcell ck)))
  isplitr; · iapply (inv_at m K ck); iexact HR
  iexact Ha

theorem close_all (f : Fin 31 → Fin 31 ⊕ Fin 31) : iprop(records m K ∗ bigSep Finset.univ fun s => atPos ER (kcell (c, .inr (f s))) (0 + 1) ∅ 0)
    ⊢ |={Set.univ}=> bigSep Finset.univ fun s => semVal (kcell (c, .inr (f s))) 0 :=
  (bigSep_spread (R := records m K) fun s _ => close_one m K (c, .inr (f s))).trans (bigSep_fupd _ _)

/-- Everything the exchange ends with becomes what the body leaves. -/
theorem finish_close : iprop(records m K ∗ Finish m c) ⊢ |={Set.univ}=> iprop(owesE c 0 ∗ stgs m c ∗ Φ₁ c) := by
  unfold Finish Φ₁ scratch
  iintro ⟨#HR, HO, Hstg, Hown, Hcomm, HaB, HaS, HaR⟩
  imod (close_one m K (c, kB)) $$ [HaB] with HzB
  · isplitr; · iexact HR
    iexact HaB
  imod (close_all m K c .inl) $$ [HaS] with HzS
  · isplitr; · iexact HR
    iexact HaS
  imod (close_all m K c .inr) $$ [HaR] with HzR
  · isplitr; · iexact HR
    iexact HaR
  imodintro
  isplitl [HO]; · iexact HO
  isplitl [Hstg]; · iexact Hstg
  isplitl [Hown Hcomm]
  · isplitl [Hown]
    · unfold ownAll; iexists _; iexact Hown
    · unfold commAll; iexists _; iexact Hcomm
  isplitl [HzS HzR]
  · iapply (show iprop((bigSep Finset.univ fun s : Fin 31 => semVal (kcell (c, .inr (.inl s))) 0) ∗ bigSep Finset.univ fun s : Fin 31 => semVal (kcell (c, .inr (.inr s))) 0)
      ⊢ (bigSep Finset.univ fun k : Fin 31 ⊕ Fin 31 => semVal (kcell (c, .inr k)) 0 : sProp 𝕄) from
        Entails.of_eq (bigSep_univ_sum fun k : Fin 31 ⊕ Fin 31 => (semVal (kcell (c, .inr k)) 0 : sProp 𝕄)).symm)
    isplitl [HzS]; · iexact HzS
    iexact HzR
  iexact HzB

/-- The store of the whole result. -/
theorem write_out (f w : (cc0_stg5_0 : Ref sig .tc).ty.Contents (Elt F)) :
    (outM.access (Rect.unit (s := S8x1x8x64) ![0, 0, 0, 0] S8x1x8x64.size inb_S8x1x8x64_S8x1x8x64_0_0_0_0) : View sig .tc _ _ _).write (Elt F) f w Finset.univ = w :=
  Memref.write_access_unit_zero_univ (Elt F) cc0_stg5_0 (by decide) _ f w

/-- The body, from what the exchange begins with to the result stored and every cell closed. -/
theorem body_run {Q : PUnit → sProp 𝕄} :
    iprop(records m K ∗ Begin m c ∗ ∃ f : Buf (Elt F) ((c : Thread nD τ).loc cc0_stg5_0), ((c : Thread nD τ).loc cc0_stg5_0) ↦{fullShare} f)
      ⊢ iprop(((owesE c 0 ∗ stgs m c ∗ Φ₁ c ∗ (((c : Thread nD τ).loc cc0_stg5_0) ↦{fullShare} outAt m c)) -∗ Q ⟨⟩)
        -∗ wp frame (wpE (defs₀ (F := F)) 𝒱₀ (c : Thread nD τ) none) Set.univ (cc0_body (F := F) qM (Memref.isWhole_whole _) kM (Memref.isWhole_whole _) vM (Memref.isWhole_whole _) tM (Memref.isWhole_whole _) nM (Memref.isWhole_whole _) outM (Memref.isWhole_whole _) ownM (Memref.isWhole_whole _) commM (Memref.isWhole_whole _) cc0_scratch2 cc0_scratch3) Q) := by
  rw [cc0_body_eq_skeleton]; unfold cc0_body_skel
  iintro ⟨#HR, HB, %f, Hout⟩ Hk
  rw [wp_bind]; iapply (part48 m K c) $$ HR HB; iintro HF
  imod (finish_close m K c) $$ [HF] with HF
  · isplitr; · iexact HR
    iexact HF
  icases HF with ⟨HO, Hstg, HΦ⟩
  generalize hr : foldRes (ownF m c) (slotBlk m c) = r
  obtain ⟨v1081, v1083, v1085, v1148, v1430, v1437, v1439⟩ := r
  simp only [Prog.lift, Prog.bind_op, Prog.bind_ret, Prog.pure_eq_ret]
  iapply (wp_load 𝒱₀ (c : Thread nD τ) none Set.univ (m := outM) (Finset.subset_univ _)) $$ Hout; iintro Hout
  iapply (wp_store 𝒱₀ (c : Thread nD τ) none Set.univ (m := outM) (r := Rect.unit (s := S8x1x8x64) ![0, 0, 0, 0] S8x1x8x64.size inb_S8x1x8x64_S8x1x8x64_0_0_0_0) (Mk := Finset.univ) (Finset.subset_univ _)) $$ Hout; iintro Hout
  have e : k0_pay1 v1081 v1083 v1085 v1148 v1430 v1437 v1439 = outAt m c := by rw [outAt_eq]; unfold foldOut; rw [hr]
  rw [write_out, e, wp_ret]; imodintro
  iapply Hk
  isplitl [HO]; · iexact HO
  isplitl [Hstg]; · iexact Hstg
  isplitl [HΦ]; · iexact HΦ
  iexact Hout

/-! ### The pipeline's view of it -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The call's data: its operands read whole and unchanged, its result `outAt`. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => qAt m c
    | ⟨1, _⟩ => kAt m c
    | ⟨2, _⟩ => vAt m c
    | ⟨3, _⟩ => tAt m c
    | ⟨4, _⟩ => nAt m c
    | ⟨5, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev stg (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre : sProp 𝕄 :=
  iprop(Φ₀ m c ∗ (dats m ρ 0 c).owesAt () t₀.castSucc
    ∗ (∃ d, stg c cc0_stg0_0 ((dats m ρ 0 c).before (0 : Fin 6) t₀ d))
    ∗ (∃ d, stg c cc0_stg1_0 ((dats m ρ 0 c).before (1 : Fin 6) t₀ d))
    ∗ (∃ d, stg c cc0_stg2_0 ((dats m ρ 0 c).before (2 : Fin 6) t₀ d))
    ∗ (∃ d, stg c cc0_stg3_0 ((dats m ρ 0 c).before (3 : Fin 6) t₀ d))
    ∗ (∃ d, stg c cc0_stg4_0 ((dats m ρ 0 c).before (4 : Fin 6) t₀ d))
    ∗ (∃ d, stg c cc0_stg5_0 ((dats m ρ 0 c).before (5 : Fin 6) t₀ d)))

def bodyPost : sProp 𝕄 :=
  iprop(Φ₁ c ∗ (dats m ρ 0 c).owesAt () t₀.succ ∗ stg c cc0_stg0_0 (qAt m c) ∗ stg c cc0_stg1_0 (kAt m c) ∗ stg c cc0_stg2_0 (vAt m c)
    ∗ stg c cc0_stg3_0 (tAt m c) ∗ stg c cc0_stg4_0 (nAt m c) ∗ stg c cc0_stg5_0 (outAt m c))

/-- The body takes the pipeline's precondition to its postcondition. -/
theorem sound_body : bodyPre m ρ c ⊢ wp frame (wpE (defs₀ (F := F)) 𝒱₀ (c : Thread nD τ) none) Set.univ (cc0_body (F := F) qM (Memref.isWhole_whole _) kM (Memref.isWhole_whole _) vM (Memref.isWhole_whole _) tM (Memref.isWhole_whole _) nM (Memref.isWhole_whole _) outM (Memref.isWhole_whole _) ownM (Memref.isWhole_whole _) commM (Memref.isWhole_whole _) cc0_scratch2 cc0_scratch3) (fun _ => bodyPost m ρ c) := by
  unfold bodyPre Φ₀ start
  iintro ⟨⟨⟨⟨%K, #HR, Hlin⟩, HcB, HcR, #Hlev⟩, Hscr⟩, Ho, ⟨%d0, %g0, %hg0, Hq⟩, ⟨%d1, %g1, %hg1, Hkk⟩, ⟨%d2, %g2, %hg2, Hv⟩, ⟨%d3, %g3, %hg3, Ht⟩, ⟨%d4, %g4, %hg4, Hn⟩, ⟨%d5, %g5, %hg5, Hout⟩⟩
  obtain rfl : g0 = qAt m c := by rw [hg0]; unfold Dat.before; rw [if_pos (fetch0_0 t₀)]; rfl
  obtain rfl : g1 = kAt m c := by rw [hg1]; unfold Dat.before; rw [if_pos (fetch0_1 t₀)]; rfl
  obtain rfl : g2 = vAt m c := by rw [hg2]; unfold Dat.before; rw [if_pos (fetch0_2 t₀)]; rfl
  obtain rfl : g3 = tAt m c := by rw [hg3]; unfold Dat.before; rw [if_pos (fetch0_3 t₀)]; rfl
  obtain rfl : g4 = nAt m c := by rw [hg4]; unfold Dat.before; rw [if_pos (fetch0_4 t₀)]; rfl
  unfold Dat.owesAt Pipeline.owesWithin
  icases Ho with ⟨%W, %hW, HO⟩
  rw [show (dats m ρ 0 c).owed t₀.castSucc = O₀ c from rfl]
  ihave HB := (begin_intro m c W) $$ [Hlin HcB HcR Hscr HO Hq Hkk Hv Ht Hn]
  · isplitl [Hlin]; · iexact Hlin
    isplitl [HcB]; · iexact HcB
    isplitl [HcR]; · iexact HcR
    isplitr; · iexact Hlev
    isplitl [Hscr]; · iexact Hscr
    isplitl [HO]; · iexact HO
    unfold stgs stgQ stgK stgV stgT stgN
    isplitl [Hq]; · iexact Hq
    isplitl [Hkk]; · iexact Hkk
    isplitl [Hv]; · iexact Hv
    isplitl [Ht]; · iexact Ht
    iexact Hn
  iapply (body_run m K c) $$ [HB Hout]
  · isplitr; · iexact HR
    isplitl [HB]; · iexact HB
    iexists g5; iexact Hout
  unfold owesE stgs stgQ stgK stgV stgT stgN
  iintro ⟨⟨%W', HO⟩, ⟨Hq, Hkk, Hv, Ht, Hn⟩, HΦ, Hout⟩
  unfold bodyPost Dat.owesAt Pipeline.owesWithin
  rw [show (dats m ρ 0 c).owed t₀.succ = 0 from rfl]
  isplitl [HΦ]; · iexact HΦ
  isplitl [HO]
  · iexists W'
    isplitr; · ipureintro; exact fun _ _ => Or.inl trivial
    iexact HO
  isplitl [Hq]; · iexists _; isplitr; · (ipureintro; rfl)
                  iexact Hq
  isplitl [Hkk]; · iexists _; isplitr; · (ipureintro; rfl)
                   iexact Hkk
  isplitl [Hv]; · iexists _; isplitr; · (ipureintro; rfl)
                  iexact Hv
  isplitl [Ht]; · iexists _; isplitr; · (ipureintro; rfl)
                  iexact Ht
  isplitl [Hn]; · iexists _; isplitr; · (ipureintro; rfl)
                  iexact Hn
  iexists _; isplitr; · (ipureintro; rfl)
  iexact Hout

set_option maxRecDepth 20000 in
/-- The body obligation on device `c`. -/
theorem body_obligation : BodyObligation (dats (F := F) m ρ 0 c) (defs₀ (F := F)) 𝒱₀ () Set.univ := fun t => by
  rw [fin_N t]
  rw [bigSep_W0, bigSep_W0]
  simp only [owns_whole_eq]
  exact sound_body m ρ c

end Body

end Cert.KernelIdeal.Exchange

end
-- ==== Proof.KernelIdeal.Run.lean ====
/-
The launch and the run of the whole program.
-/
module

public import proofs.«01_k».proof.Proof.KernelIdeal.Body
public import Idealize.ShloMosaic.Lib.Pipeline.CollectiveSegs

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch -/

theorem ownSemFacts : Pipeline.OwnSemFacts cfg0.spec osem := by decide

theorem share_eq (c : Dev nD) (w : Fin cfg0.W) : (dats m ρ 0 c).share w = fullShare := by unfold Dat.share; split <;> rfl

def ringCells : Finset (GSem nD τ sig) := Finset.univ.map ⟨kcell, kcell_injective⟩

/-- A device's own cells' duties: a barrier's 31, one at each send and receive cell. -/
abbrev DK : Type := Fin 31 ⊕ (Fin 31 ⊕ Fin 31)
abbrev tokOf (cj : Dev nD × DK) : GSem nD τ sig × ℕ × Fin 31 := match cj.2 with
  | .inl t => (barCell cj.1, 0, t)
  | .inr k => (kcell (cj.1, .inr k), 0, 0)
theorem tokOf_injective : Function.Injective (tokOf : Dev nD × DK → GSem nD τ sig × ℕ × Fin 31) := by
  rintro ⟨c, j⟩ ⟨c', j'⟩ h
  have hc := congrArg (fun x : GSem nD τ sig × ℕ × Fin 31 => x.1) h
  have hd := congrArg (fun x : GSem nD τ sig × ℕ × Fin 31 => x.2.2) h
  rcases j with t | k <;> rcases j' with t' | k'
  · have := kcell_injective hc; simp only [Prod.mk.injEq] at this; obtain ⟨rfl, -⟩ := this
    have : t = t' := hd
    subst this; rfl
  · have := kcell_injective hc; simp at this
  · have := kcell_injective hc; simp at this
  · have := kcell_injective hc; simp only [Prod.mk.injEq, Sum.inr.injEq] at this; obtain ⟨rfl, rfl⟩ := this; rfl
def ringToks : Finset (GSem nD τ sig × ℕ × Fin 31) := Finset.univ.map ⟨tokOf, tokOf_injective⟩

def u₀ : UU :=
  (initOf (Pipeline.cells cfgs cellOf_inj) (Pipeline.launchToks cfgs cellOf_inj), initOf ringCells ringToks)

/-- The duty tokens of device `c`'s own cells. -/
def toks (c : Dev nD) : sProp 𝕄 :=
  iprop((bigSep Finset.univ fun t => dutyTok ER (barCell c) 0 t)
    ∗ (bigSep Finset.univ fun s => dutyTok ER (sendCell c s) 0 0) ∗ bigSep Finset.univ fun s => dutyTok ER (recvCell c s) 0 0)

/-- What the launch deals device `c`. -/
def G (c : Dev nD) : sProp 𝕄 :=
  iprop((bigSep Finset.univ fun k : CK => roundState ER (ringRd m) (kcell (c, k)) 0)
    ∗ (bigSep Finset.univ fun k : CK => iprop(atPos ER (kcell (c, k)) 0 ∅ 0 ∗ reached ER (kcell (c, k)) 0)) ∗ toks c)
/-- What the global step makes of it. -/
def G' (c : Dev nD) : sProp 𝕄 := iprop(∃ K, records m K ∗ linear c)

theorem toks_eq (c : Dev nD) : (bigSep Finset.univ fun j : DK => (dutyTok ER (tokOf (c, j)).1 (tokOf (c, j)).2.1 (tokOf (c, j)).2.2 : sProp 𝕄)) = toks c := by
  unfold toks
  rw [bigSep_univ_sum, bigSep_univ_sum]; rfl

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : CK => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => toks_eq c
  iintro HX
  imod (Rounds.fund ER (ringRd m) ringCells ringToks) $$ HX with ⟨Hst, Hr, Hat, Htok⟩
  imodintro
  ihave Hst' := (Entails.of_eq (hX fun g => roundState ER (ringRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The barrier's semaphore is the one the kernel's scope does not hold. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    (bigSep Finset.univ fun k : CK => (semVal (kcell (c, k)) 0 : sProp 𝕄))
      = iprop(unscopedSems0 c ∗ Pipeline.ownSems0 (Ix := Unit) (Name := ℕ) (U := UU) (Lvl := ℕ) (Val := Elt F) (τ := τ) osem c) := by
  rw [bigSep_univ_sum, unscopedSems0_eq, show (Finset.univ : Finset Unit) = {()} from rfl, bigSep_singleton]
  rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (ringRd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (Entails.of_eq (sems0_eq (F := F) c).symm) $$ [Hos Hus]
  · isplitl [Hus] <;> iassumption
  imod (show iprop((bigSep Finset.univ fun k : CK => semVal (kcell (c, k)) 0) ∗ bigSep Finset.univ fun k : CK => roundState ER (ringRd m) (kcell (c, k)) 0)
      ⊢ (|={Set.univ}=> bigSep Finset.univ fun k => iprop(∃ κ : ℕ, cellInv ER (ringRd m) κ (kcell (c, k))) : sProp 𝕄) from by
        rw [← bigSep_sep']
        exact (bigSep_mono fun k _ => (Rounds.body_intro ER (ringRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ### The tokens go to the devices that pay with them -/

/-- A family over devices and slots, each slot's column shifted by that slot's distance. -/
theorem shift_columns (Φ : Dev nD → Fin 31 → sProp 𝕄) :
    (bigSep Finset.univ fun c => bigSep Finset.univ fun s => Φ c s) = bigSep Finset.univ fun c => bigSep Finset.univ fun s => Φ (fwd c s) s := by
  rw [BI.bigSep_univ_comm (fun c s => Φ c s), BI.bigSep_univ_comm (fun c s => Φ (fwd c s) s)]
  exact bigSep_congr fun s _ => bigSep_univ_equiv (shift s) fun c => Φ c s

theorem toks_around : (bigSep Finset.univ fun c : Dev nD => (toks c : sProp 𝕄)) = bigSep Finset.univ fun c : Dev nD => iprop(sigToks c ∗ sendToks c) := by
  have h1 : (bigSep Finset.univ fun c : Dev nD => bigSep Finset.univ fun t => (dutyTok ER (barCell c) 0 t : sProp 𝕄)) = bigSep Finset.univ fun c : Dev nD => sigToks c := by
    unfold sigToks
    rw [← shift_columns fun c s => (dutyTok ER (barCell c) 0 s.rev : sProp 𝕄)]
    exact bigSep_congr fun c _ => bigSep_univ_equiv Fin.revPerm fun t => (dutyTok ER (barCell c) 0 t : sProp 𝕄)
  have h2 : (bigSep Finset.univ fun c : Dev nD => iprop((bigSep Finset.univ fun s => dutyTok ER (sendCell c s) 0 0) ∗ bigSep Finset.univ fun s => dutyTok ER (recvCell c s) 0 0))
      = bigSep Finset.univ fun c : Dev nD => (sendToks c : sProp 𝕄) := by
    unfold sendToks
    rw [bigSep_sep', shift_columns fun c s => (dutyTok ER (recvCell c s) 0 0 : sProp 𝕄), ← bigSep_sep']
    exact bigSep_congr fun c _ => (bigSep_sep' _ _ _).symm
  unfold toks
  rw [bigSep_sep', h1, h2, ← bigSep_sep']

/-- A device's positions at its cells, barrier, send and receive. -/
theorem pos_eq (c : Dev nD) : (bigSep Finset.univ fun k : CK => (atPos ER (kcell (c, k)) 0 ∅ 0 : sProp 𝕄))
    = iprop(atPos ER (barCell c) 0 ∅ 0 ∗ (bigSep Finset.univ fun s => atPos ER (sendCell c s) 0 ∅ 0) ∗ bigSep Finset.univ fun s => atPos ER (recvCell c s) 0 ∅ 0) := by
  rw [bigSep_univ_sum, show (Finset.univ : Finset Unit) = {()} from rfl, bigSep_singleton, bigSep_univ_sum]
  rfl

theorem linear_intro (c : Dev nD) : iprop((bigSep Finset.univ fun k : CK => atPos ER (kcell (c, k)) 0 ∅ 0) ∗ sigToks c ∗ sendToks c) ⊢ (linear c : sProp 𝕄) := by
  rw [pos_eq]
  unfold linear
  iintro ⟨⟨H1, H2, H3⟩, H4, H5⟩
  isplitl [H1]; · iexact H1
  isplitl [H2]; · iexact H2
  isplitl [H3]; · iexact H3
  isplitl [H4]; · iexact H4
  iexact H5

theorem regroup :
    (bigSep Finset.univ fun c : Dev nD => iprop((bigSep Finset.univ fun k => iprop(∃ κ : ℕ, cellInv ER (ringRd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × CK => iprop(∃ κ : ℕ, cellInv ER (ringRd m) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄)), toks_around]
  iintro ⟨HI, ⟨Hat, #HR⟩, Htok⟩
  ihave HK := (BI.bigSep_exists_pi Finset.univ (fun (ck : Dev nD × CK) (κ : ℕ) => (cellInv ER (ringRd m) κ (kcell ck) : sProp 𝕄))) $$ HI
  icases HK with ⟨%K, #HI⟩
  iapply (bigSep_spread (R := records m K) fun c _ => show iprop(records m K ∗ linear c) ⊢ G' m c from by unfold G'; iintro H; iexists K; iexact H)
  isplitr
  · unfold records; isplitl; · iexact HI
    iexact HR
  · iapply ((Entails.of_eq (bigSep_sep' Finset.univ (fun c : Dev nD => bigSep Finset.univ fun k : CK => (atPos ER (kcell (c, k)) 0 ∅ 0 : sProp 𝕄)) (fun c => iprop(sigToks c ∗ sendToks c))).symm).trans
      (bigSep_mono fun c _ => linear_intro c))
    isplitl [Hat]; · iexact Hat
    iexact Htok

/-- The global step: every device's semaphores at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit -/

theorem tally_sum_apply {S : Finset (Fin 31)} (f : Fin 31 → GSem nD τ sig) (k : ℕ) (g : GSem nD τ sig) :
    (∑ s ∈ S, (tallyAt (f s) () k : CellTallies nD τ sig Unit)) g () = ∑ s ∈ S, if g = f s then k else 0 := by
  induction S using Finset.induction_on with
  | empty => rfl
  | insert a S ha ih =>
    rw [Finset.sum_insert ha, Finset.sum_insert ha, Pi.add_apply, Finsupp.add_apply, ih, tallyAt_apply]
    simp only [and_true]

theorem bar_eq_iff {c d : Dev nD} {s : Fin 31} : barCell c = barCell (fwd d s) ↔ d = bwd c s := by
  constructor
  · intro h; have := kcell_injective h; simp only [Prod.mk.injEq, and_true] at this; rw [this, bwd_fwd]
  · rintro rfl; rw [fwd_bwd]
theorem recv_eq_iff {c d : Dev nD} {s t : Fin 31} : recvCell c s = recvCell (fwd d t) t ↔ s = t ∧ d = bwd c s := by
  constructor
  · intro h; have := kcell_injective h; simp only [Prod.mk.injEq, Sum.inr.injEq] at this
    obtain ⟨h1, rfl⟩ := this; exact ⟨rfl, by rw [h1, bwd_fwd]⟩
  · rintro ⟨rfl, rfl⟩; rw [fwd_bwd]

/-- What device `d` owes device `c`'s barrier cell. -/
theorem owed_bar (d c : Dev nD) : O₀ d (barCell c) () = ∑ s : Fin 31, if d = bwd c s then 1 else 0 := by
  unfold O₀ Osnd Obar
  rw [Pi.add_apply, Finsupp.add_apply, tally_sum_apply, tally_sum_apply, ge_zero,
    Finset.sum_eq_zero (fun s _ => if_neg fun h => by have := kcell_injective h; simp at this), Nat.zero_add]
  exact Finset.sum_congr rfl fun s _ => if_congr bar_eq_iff rfl rfl
/-- What it owes its receive cell of slot `s`. -/
theorem owed_recv (d c : Dev nD) (s : Fin 31) : O₀ d (recvCell c s) () = if d = bwd c s then N else 0 := by
  unfold O₀ Osnd Obar
  rw [Pi.add_apply, Finsupp.add_apply, tally_sum_apply, tally_sum_apply, ge_zero,
    Finset.sum_eq_zero (s := Finset.univ) (f := fun t => if recvCell c s = barCell (fwd d t) then 1 else 0)
      (fun t _ => if_neg fun h => by have := kcell_injective h; simp at this), Nat.add_zero,
    Finset.sum_eq_single s (fun t _ ht => if_neg fun h => ht (recv_eq_iff.mp h).1.symm) (fun h => absurd (Finset.mem_univ _) h)]
  exact if_congr (by rw [recv_eq_iff]; exact and_iff_right rfl) rfl rfl

theorem launch_bar (c : Dev nD) :
    tallyOn (barCell c) (launchCredit (Pipeline.owing O₀) 0 (barCell c)) = (tallyAt (barCell c) () 31 : CellTallies nD τ sig Unit) := by
  unfold tallyAt; refine congrArg _ (Finsupp.ext fun u => ?_); cases u
  rw [Pipeline.launchCredit_owing, Finsupp.single_eq_same, Finset.sum_congr rfl fun d _ => owed_bar d c, Finset.sum_comm,
    Finset.sum_congr rfl fun s _ => (Finset.sum_ite_eq' Finset.univ (bwd c s) fun _ => 1).trans (if_pos (Finset.mem_univ _))]
  rfl

theorem launch_recv (c : Dev nD) (s : Fin 31) :
    tallyOn (recvCell c s) (launchCredit (Pipeline.owing O₀) 0 (recvCell c s)) = (tallyAt (recvCell c s) () N : CellTallies nD τ sig Unit) := by
  unfold tallyAt; refine congrArg _ (Finsupp.ext fun u => ?_); cases u
  rw [Pipeline.launchCredit_owing, Finsupp.single_eq_same, Finset.sum_congr rfl fun d _ => owed_recv d c s, Finset.sum_ite_eq' Finset.univ (bwd c s) fun _ => N,
    if_pos (Finset.mem_univ _)]

/-- The receive semaphores, as a family. -/
def recvEmb : Fin 31 ↪ SemLoc sig := ⟨fun s => csem (kR s), fun s t h => by have := csem_inj h; simpa using this⟩

theorem creds (c : Dev nD) :
    (Pipeline.launchCred O₀ c : sProp 𝕄) ⊢ iprop(cred (tallyAt (barCell c) () 31) ∗ bigSep Finset.univ fun s => cred (tallyAt (recvCell c s) () N)) := by
  unfold Pipeline.launchCred
  rw [bigSep_univ_at _ (SemLoc.reg barS), launch_bar]
  refine sep_mono_right ?_
  rw [show (bigSep Finset.univ fun s => (cred (tallyAt (recvCell c s) () N) : sProp 𝕄))
      = bigSep (Finset.univ.map recvEmb) fun sm => cred (tallyOn (c.tc, sm) (launchCredit (Pipeline.owing O₀) 0 (c.tc, sm))) from by
    rw [bigSep_map]; exact bigSep_congr fun s _ => congrArg cred (launch_recv c s).symm]
  refine BI.bigSep_subset fun x hx => ?_
  obtain ⟨s, -, rfl⟩ := Finset.mem_map.mp hx
  exact Finset.mem_erase.mpr ⟨fun h => by have := csem_inj (a₁ := kR s) (a₂ := kB) h; simp at this, Finset.mem_univ _⟩

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, show Pipeline.scopedRest cfg0.spec c = _ from scopedRest0_eq c]
  unfold Φ₀ scratch
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, show Pipeline.scopedRest cfg0.spec c = _ from scopedRest0_eq c, unscopedSems0_eq]
  unfold Φ₁ scratch Pipeline.ownSems0
  iintro ⟨Hr, Hz, HzB⟩
  isplitl [HzB]; · iexact HzB
  isplitl [Hz]; · iexact Hz
  iexact Hr

/-- No staging semaphore is one of the exchange's. -/
theorem kindOf_stage {q : DmaSem sig} (h : q.val < 6) : kindOf (.dma q) = none := by
  cases hk : kindOf (.dma q) with
  | none => rfl
  | some k =>
    exfalso
    have e := csem_of_kindOf hk
    rcases k with _ | s | s
    · cases e
    · have := congrArg Fin.val (SemLoc.dma.inj e); rw [sendQ_val] at this; omega
    · have := congrArg Fin.val (SemLoc.dma.inj e); rw [recvQ_val] at this; omega

theorem waits (c : Dev nD) : (levAts L lv : sProp 𝕄) ⊢ Pipeline.cellsWaits cfgs (dats m ρ) () 0 c :=
  Pipeline.cellsWaits_intro cfgs (dats m ρ) () 0 c fun w s t =>
    mayWait_stage c _ (kindOf_stage (by fin_cases w <;> fin_cases s <;> decide)) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- From any memory with zero counters every weakly fair execution ends, every array of the call at its final contents, every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Exchange

end
-- ==== Proof.KernelIdeal.Result.lean ====
/-
What the run leaves in the arguments and in the result.
-/
module

public import proofs.«01_k».proof.Proof.KernelIdeal.Run
public import Idealize.ShloMosaic.Lib.Pipeline.Value

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What the run leaves -/

/-- The one point's block of the output array is the whole array, and the body leaves it at `outAt`. -/
theorem flushed_out (c : Dev nD) (t : Fin cfg0.N) :
    (dats m ρ 0 c).flushed (5 : Fin 6) t = ((cfg0.win (5 : Fin 6)).blk t).view.read (Elt F) (outAt m c) := by
  obtain rfl := fin_N t
  have ha : (dats m ρ 0 c).after (5 : Fin 6) t₀ = outAt m c := by dsimp only [dats]
  unfold Pipeline.Dat.flushed
  rw [ha]
  generalize outAt m c = X
  funext i
  exact (congrArg X (funext fun a => Fin.ext (Pipeline.Window.rect_emb_val_of_index_zero win0_5 t₀ a rfl i))).symm

theorem cover_out (i : S8x1x8x64.Idx) : ∃ t : Fin cfg0.N, (cfg0.win (5 : Fin 6)).flush t = true ∧ i ∈ ((cfg0.win (5 : Fin 6)).blk t).view.set := by
  refine ⟨t₀, flush0_5 t₀, ?_⟩
  show i ∈ ((View.whole main_v1).slice (win0_5.rect t₀)).set
  rw [View.set_slice_whole, Rect.mem_set_unit]
  exact fun a => ⟨(Nat.zero_mul _).le.trans (Nat.zero_le _), by
    show (i a : ℕ) < 0 * _ + S8x1x8x64.size a
    rw [Nat.zero_mul, Nat.zero_add]; exact (i a).isLt⟩

theorem finalA_out (c : Dev nD) : finalA m ρ c (5 : Fin 6) = outAt m c :=
  (dats m ρ 0 c).arrAt_eq_of_cover (5 : Fin 6) (outAt m c) (fun t _ => flushed_out m ρ c t) cover_out

/-- The arguments after a run hold what they held. -/
theorem args_of_QC {r : PUnit × MemSt nD τ sig (Elt F)} (h : QC m ρ r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨(h c (0 : Fin 6)).trans ((dats m ρ 0 c).arrAt_in (0 : Fin 6) rfl _), (h c (1 : Fin 6)).trans ((dats m ρ 0 c).arrAt_in (1 : Fin 6) rfl _),
    (h c (2 : Fin 6)).trans ((dats m ρ 0 c).arrAt_in (2 : Fin 6) rfl _), (h c (3 : Fin 6)).trans ((dats m ρ 0 c).arrAt_in (3 : Fin 6) rfl _),
    (h c (4 : Fin 6)).trans ((dats m ρ 0 c).arrAt_in (4 : Fin 6) rfl _)⟩

/-- The result after a run, on every device. -/
theorem result_of_QC {r : PUnit × MemSt nD τ sig (Elt F)} (h : QC m ρ r) (c : Dev nD) :
    r.2.mem ((c.tc : Thread nD τ).loc main_v1) = outAt m c := (h c (5 : Fin 6)).trans (finalA_out m ρ c)

/-- A block that is its whole array reads the array. -/
theorem qAt_eq (c : Dev nD) : qAt m c = m ((c.tc : Thread nD τ).loc main_arg0) := by
  unfold qAt
  generalize m ((c : Thread nD τ).loc main_arg0) = X
  funext i
  exact congrArg X (funext fun a => Fin.ext (Pipeline.Window.rect_emb_val_of_index_zero win0_0 (0 : Fin 1) a rfl i))
theorem kAt_eq (c : Dev nD) : kAt m c = m ((c.tc : Thread nD τ).loc main_arg1) := by
  unfold kAt
  generalize m ((c : Thread nD τ).loc main_arg1) = X
  funext i
  exact congrArg X (funext fun a => Fin.ext (Pipeline.Window.rect_emb_val_of_index_zero win0_1 (0 : Fin 1) a rfl i))
theorem vAt_eq (c : Dev nD) : vAt m c = m ((c.tc : Thread nD τ).loc main_arg2) := by
  unfold vAt
  generalize m ((c : Thread nD τ).loc main_arg2) = X
  funext i
  exact congrArg X (funext fun a => Fin.ext (Pipeline.Window.rect_emb_val_of_index_zero win0_2 (0 : Fin 1) a rfl i))
theorem tAt_eq (c : Dev nD) : tAt m c = m ((c.tc : Thread nD τ).loc main_arg3) := by
  unfold tAt
  generalize m ((c : Thread nD τ).loc main_arg3) = X
  funext i
  exact congrArg X (funext fun a => Fin.ext (Pipeline.Window.rect_emb_val_of_index_zero win0_3 (0 : Fin 1) a rfl i))
theorem nAt_eq (c : Dev nD) : nAt m c = m ((c.tc : Thread nD τ).loc main_arg4) := by
  unfold nAt
  generalize m ((c : Thread nD τ).loc main_arg4) = X
  funext i
  exact congrArg X (funext fun a => Fin.ext (Pipeline.Window.rect_emb_val_of_index_zero win0_4 (0 : Fin 1) a rfl i))

end Cert.KernelIdeal.Exchange

end
-- ==== Proof.Value.Merge.lean ====
/-
Partial softmaxes over the extended reals. A device weighs its keys by how often the tables name them, shifts its scores by
a real of its own, and the merge shifts again; the shifts cancel, the weights unfold into the tables' entries, and
what is left is the softmax over the rows that the tables gather.
-/
module

public import Idealize.ShloMosaic.PureOps.Ideal
public import Mathlib.Algebra.BigOperators.Fin
public import Mathlib.Algebra.BigOperators.Field
public import Mathlib.Data.Fintype.BigOperators
public import Mathlib.Data.Finset.Fold

@[expose] public section

noncomputable section

namespace Cert.Merge

open Idealize.ShloMosaic
open scoped BigOperators

/-! ## Sums over the extended reals -/

/-- A sum of reals, read in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A real that is not negative distributes over a sum. -/
theorem mul_sum {ι : Type*} (s : Finset ι) {c : ℝ} (hc : 0 ≤ c) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha,
      EReal.left_distrib_of_nonneg_of_ne_top (EReal.coe_nonneg.2 hc) (EReal.coe_ne_top c), ih]

/-- A sum of reals that are not negative, times anything. -/
theorem sum_mul {ι : Type*} (s : Finset ι) (f : ι → ℝ) (hf : ∀ i, 0 ≤ f i) (y : EReal) :
    ((∑ i ∈ s, f i : ℝ) : EReal) * y = ∑ i ∈ s, (f i : EReal) * y := by
  classical
  induction s using Finset.induction_on with
  | empty => simp
  | insert a s ha ih =>
    rw [Finset.sum_insert ha, Finset.sum_insert ha, EReal.coe_add,
      EReal.right_distrib_of_nonneg (EReal.coe_nonneg.2 (hf a)) (EReal.coe_nonneg.2 (Finset.sum_nonneg fun i _ => hf i)), ih]

/-- The exponential of a difference of reals. -/
theorem exp_sub (a b : ℝ) : Ideal.exp ((a : EReal) - b) = ((Real.exp (a - b) : ℝ) : EReal) := by rw [← EReal.coe_sub]; rfl

/-- Nothing is left of minus infinity. -/
theorem exp_bot_sub (b : ℝ) : Ideal.exp ((⊥ : EReal) - b) = 0 := by rw [EReal.bot_sub]; rfl

/-- Division by a real other than zero is multiplication by its inverse. -/
theorem div_coe (x : EReal) {r : ℝ} (hr : r ≠ 0) : Ideal.div x r = ((r⁻¹ : ℝ) : EReal) * x := by
  unfold Ideal.div
  rw [if_neg (by exact_mod_cast hr), mul_comm, EReal.coe_inv]

/-- The maximum of scores of which none is infinite above and one is a real is a real. -/
theorem fold_max {ι : Type*} [Fintype ι] (S : ι → EReal) (ht : ∀ x, S x ≠ ⊤) (x₀ : ι) (h₀ : S x₀ ≠ ⊥) :
    ∃ μ : ℝ, Finset.univ.fold max (⊥ : EReal) S = μ := by
  have h1 : Finset.univ.fold max (⊥ : EReal) S < ⊤ :=
    (Finset.fold_max_lt _).2 ⟨bot_lt_top, fun x _ => lt_top_iff_ne_top.2 (ht x)⟩
  have h2 : S x₀ ≤ Finset.univ.fold max (⊥ : EReal) S := (Finset.le_fold_max _).2 (Or.inr ⟨x₀, Finset.mem_univ _, le_rfl⟩)
  have h3 : Finset.univ.fold max (⊥ : EReal) S ≠ ⊥ := fun h => h₀ (le_bot_iff.1 (h ▸ h2))
  exact ⟨_, (EReal.coe_toReal h1.ne h3).symm⟩

/-! ## The softmax of one row of masked scores -/

/-- The softmax of one row: a masked score contributes nothing, and the shift by the maximum cancels. -/
theorem softmax_row {ι : Type*} [Fintype ι] (S V : ι → EReal) (ok : ι → Prop) [DecidablePred ok] (σ : ι → ℝ)
    (hS : ∀ x, S x = if ok x then (σ x : EReal) else ⊥) (x₀ : ι) (h₀ : ok x₀) :
    ∑ x, V x * Ideal.div (Ideal.exp (S x - Finset.univ.fold max (⊥ : EReal) S)) (∑ y, Ideal.exp (S y - Finset.univ.fold max (⊥ : EReal) S))
      = ∑ x, if ok x then ((Real.exp (σ x) / ∑ y, (if ok y then Real.exp (σ y) else 0) : ℝ) : EReal) * V x else 0 := by
  obtain ⟨μ, hμ⟩ := fold_max S (fun x => by rw [hS]; split; exacts [EReal.coe_ne_top _, bot_ne_top]) x₀
    (by rw [hS, if_pos h₀]; exact EReal.coe_ne_bot _)
  rw [hμ]
  have hE : ∀ x, Ideal.exp (S x - μ) = (((if ok x then Real.exp (σ x) else 0) * Real.exp (-μ) : ℝ) : EReal) := fun x => by
    rw [hS]
    split
    · rw [exp_sub, sub_eq_add_neg, Real.exp_add]
    · rw [exp_bot_sub, zero_mul]; rfl
  simp only [hE]
  rw [← coe_sum, ← Finset.sum_mul]
  have hL : 0 < ∑ y, (if ok y then Real.exp (σ y) else 0) := by
    refine Finset.sum_pos' (fun y _ => ?_) ⟨x₀, Finset.mem_univ _, ?_⟩
    · split; exacts [(Real.exp_pos _).le, le_rfl]
    · rw [if_pos h₀]; exact Real.exp_pos _
  refine Finset.sum_congr rfl fun x _ => ?_
  rw [div_coe _ (mul_pos hL (Real.exp_pos _)).ne', ← EReal.coe_mul, mul_comm]
  split
  · congr 2
    field_simp
  · rw [zero_mul, mul_zero, EReal.coe_zero, zero_mul]

/-! ## The merge of the devices' partial softmaxes -/

section Merge
variable {δ κ : Type*} [Fintype δ] [Fintype κ] (w σ : δ → κ → ℝ) (V : δ → κ → EReal) (ν M : ℝ) (μ : δ → ℝ)

/-- A key's weighted exponential: a key that is not named contributes nothing, whatever stands in for its score. -/
theorem weighted (hw : ∀ d k, 0 ≤ w d k) (d : δ) (k : κ) :
    (w d k : EReal) * Ideal.exp ((if 0 < (w d k : EReal) then (σ d k : EReal) else (ν : EReal)) - (μ d : EReal))
      = ((w d k * Real.exp (σ d k) * Real.exp (-μ d) : ℝ) : EReal) := by
  rcases (hw d k).eq_or_lt with h | h
  · rw [← h]; simp
  · rw [if_pos (EReal.coe_pos.2 h), exp_sub, ← EReal.coe_mul, sub_eq_add_neg, Real.exp_add, mul_assoc]

/-- The merge: the devices' shifts and the merge's cancel. -/
theorem merged (hw : ∀ d k, 0 ≤ w d k) (hL : (∑ d, ∑ k, w d k * Real.exp (σ d k)) ≠ 0) :
    Ideal.div
      (∑ d, Ideal.exp ((μ d : EReal) - M) * ∑ k, (w d k : EReal)
        * Ideal.exp ((if 0 < (w d k : EReal) then (σ d k : EReal) else (ν : EReal)) - (μ d : EReal)) * V d k)
      (∑ d, Ideal.exp ((μ d : EReal) - M) * ∑ k, (w d k : EReal)
        * Ideal.exp ((if 0 < (w d k : EReal) then (σ d k : EReal) else (ν : EReal)) - (μ d : EReal)))
    = ∑ d, ∑ k, ((w d k * (Real.exp (σ d k) / ∑ d, ∑ k, w d k * Real.exp (σ d k)) : ℝ) : EReal) * V d k := by
  simp only [weighted w σ ν μ hw, exp_sub]
  have hden : ∑ d, ((Real.exp (μ d - M) : ℝ) : EReal) * ∑ k, ((w d k * Real.exp (σ d k) * Real.exp (-μ d) : ℝ) : EReal)
      = (((∑ d, ∑ k, w d k * Real.exp (σ d k)) * Real.exp (-M) : ℝ) : EReal) := by
    rw [Finset.sum_mul, coe_sum]
    refine Finset.sum_congr rfl fun d _ => ?_
    rw [← coe_sum, ← EReal.coe_mul, ← Finset.sum_mul, sub_eq_add_neg, Real.exp_add, Real.exp_neg (μ d)]
    congr 1
    field_simp
  rw [hden, div_coe _ (mul_ne_zero hL (Real.exp_pos _).ne')]
  set L := ∑ d, ∑ k, w d k * Real.exp (σ d k) with hLdef
  have hL0 : 0 ≤ L := Finset.sum_nonneg fun d _ => Finset.sum_nonneg fun k _ => mul_nonneg (hw d k) (Real.exp_pos _).le
  rw [mul_sum _ (inv_nonneg.2 (mul_nonneg hL0 (Real.exp_pos _).le))]
  refine Finset.sum_congr rfl fun d _ => ?_
  rw [← mul_assoc, ← EReal.coe_mul,
    mul_sum _ (mul_nonneg (inv_nonneg.2 (mul_nonneg hL0 (Real.exp_pos _).le)) (Real.exp_pos _).le)]
  refine Finset.sum_congr rfl fun k _ => ?_
  rw [← mul_assoc, ← EReal.coe_mul]
  congr 2
  rw [sub_eq_add_neg, Real.exp_add, Real.exp_neg (μ d)]
  field_simp

end Merge

/-! ## From the devices' keys to the tables' rows -/

/-- The table's entry that a gathered row belongs to, or the page of a device that a key belongs to. -/
def blk (x : Fin 1024) : Fin 64 := ⟨x.val / 16, by omega⟩
/-- The place of a row within its page. -/
def off (x : Fin 1024) : Fin 16 := ⟨x.val % 16, by omega⟩
/-- The page of the whole pool that a device's key belongs to. -/
def page (d : Fin 32) (x : Fin 1024) : Fin 2048 := ⟨d.val * 64 + x.val / 16, by omega⟩

/-- A sum over 1024 rows, page by page. -/
theorem sum_rows {A : Type*} [AddCommMonoid A] (g : Fin 64 → Fin 16 → A) : ∑ x : Fin 1024, g (blk x) (off x) = ∑ a, ∑ o, g a o := by
  rw [← Fintype.sum_prod_type']
  refine Fintype.sum_bijective (fun x : Fin 1024 => (blk x, off x)) ⟨fun x y h => ?_, fun p => ?_⟩ _ _ fun _ => rfl
  · have h1 : x.val / 16 = y.val / 16 := congrArg (fun p => p.1.val) h
    have h2 : x.val % 16 = y.val % 16 := congrArg (fun p => p.2.val) h
    exact Fin.ext (by omega)
  · have h1 := p.1.isLt
    have h2 := p.2.isLt
    exact ⟨⟨p.1.val * 16 + p.2.val, by omega⟩, Prod.ext (Fin.ext (by show (p.1.val * 16 + p.2.val) / 16 = _; omega))
      (Fin.ext (by show (p.1.val * 16 + p.2.val) % 16 = _; omega))⟩

/-- A sum over 2048 pages, device by device. -/
theorem sum_pages {A : Type*} [AddCommMonoid A] (g : Fin 2048 → A) :
    ∑ d : Fin 32, ∑ a : Fin 64, g ⟨d.val * 64 + a.val, by omega⟩ = ∑ p, g p := by
  rw [← Fintype.sum_prod_type']
  refine Fintype.sum_bijective (fun p : Fin 32 × Fin 64 => (⟨p.1.val * 64 + p.2.val, by omega⟩ : Fin 2048))
    ⟨fun x y h => ?_, fun p => ?_⟩ _ _ fun _ => rfl
  · have h1 : x.1.val * 64 + x.2.val = y.1.val * 64 + y.2.val := congrArg Fin.val h
    exact Prod.ext (Fin.ext (by omega)) (Fin.ext (by omega))
  · have h1 := p.isLt
    exact ⟨(⟨p.val / 64, by omega⟩, ⟨p.val % 64, by omega⟩), Fin.ext (by show p.val / 64 * 64 + p.val % 64 = _; omega)⟩

/-- Every entry within the length that names a page of a device counts each of that page's keys once: summed over all
    devices, that is every row the tables gather within the length. -/
theorem regroup {A : Type*} [AddCommMonoid A] (ok : Fin 64 → Prop) [DecidablePred ok] (row : Fin 64 → Fin 2048) (g : Fin 2048 → Fin 16 → A) :
    ∑ d : Fin 32, ∑ x : Fin 1024, ∑ j : Fin 64, (if ok j ∧ row j = page d x then g (page d x) (off x) else 0)
      = ∑ x : Fin 1024, if ok (blk x) then g (row (blk x)) (off x) else 0 := by
  have h1 : ∀ d : Fin 32, ∑ x : Fin 1024, ∑ j : Fin 64, (if ok j ∧ row j = page d x then g (page d x) (off x) else 0)
      = ∑ a : Fin 64, (fun p : Fin 2048 => ∑ o : Fin 16, ∑ j : Fin 64, if ok j ∧ row j = p then g p o else 0) ⟨d.val * 64 + a.val, by omega⟩ :=
    fun d => sum_rows fun a o => ∑ j : Fin 64,
      if ok j ∧ row j = (⟨d.val * 64 + a.val, by omega⟩ : Fin 2048) then g ⟨d.val * 64 + a.val, by omega⟩ o else 0
  refine ((Finset.sum_congr rfl fun d _ => h1 d).trans
    (sum_pages fun p : Fin 2048 => ∑ o : Fin 16, ∑ j : Fin 64, if ok j ∧ row j = p then g p o else 0)).trans ?_
  refine Eq.trans ?_ (sum_rows fun a o => if ok a then g (row a) o else 0).symm
  have h2 : ∀ p, ∑ o : Fin 16, ∑ j : Fin 64, (if ok j ∧ row j = p then g p o else 0)
      = ∑ j : Fin 64, ∑ o : Fin 16, if ok j ∧ row j = p then g p o else 0 := fun p => Finset.sum_comm
  rw [Finset.sum_congr rfl fun p _ => h2 p, Finset.sum_comm]
  refine Finset.sum_congr rfl fun j _ => ?_
  rw [Finset.sum_comm]
  refine Finset.sum_congr rfl fun o _ => ?_
  by_cases h : ok j
  · simp [h]
  · simp [h]

/-- How often the tables name a key of a device, within the length. -/
def count (ok : Fin 64 → Prop) [DecidablePred ok] (row : Fin 64 → Fin 2048) (d : Fin 32) (x : Fin 1024) : ℝ :=
  ∑ j : Fin 64, if ok j ∧ row j = page d x then 1 else 0

theorem count_nonneg (ok : Fin 64 → Prop) [DecidablePred ok] (row : Fin 64 → Fin 2048) (d : Fin 32) (x : Fin 1024) : 0 ≤ count ok row d x :=
  Finset.sum_nonneg fun j _ => by split; exacts [zero_le_one, le_rfl]

/-- The weighted sum over all devices' keys is the sum over the gathered rows, of reals. -/
theorem regroup_real (ok : Fin 64 → Prop) [DecidablePred ok] (row : Fin 64 → Fin 2048) (g : Fin 2048 → Fin 16 → ℝ) :
    ∑ d : Fin 32, ∑ x : Fin 1024, count ok row d x * g (page d x) (off x)
      = ∑ x : Fin 1024, if ok (blk x) then g (row (blk x)) (off x) else 0 := by
  rw [← regroup]
  refine Finset.sum_congr rfl fun d _ => Finset.sum_congr rfl fun x _ => ?_
  unfold count
  rw [Finset.sum_mul]
  refine Finset.sum_congr rfl fun j _ => ?_
  split <;> simp

/-- The same with a factor that may be infinite. -/
theorem regroup_ext (ok : Fin 64 → Prop) [DecidablePred ok] (row : Fin 64 → Fin 2048) (a : Fin 2048 → Fin 16 → ℝ)
    (ha : ∀ p o, 0 ≤ a p o) (V : Fin 2048 → Fin 16 → EReal) :
    ∑ d : Fin 32, ∑ x : Fin 1024, ((count ok row d x * a (page d x) (off x) : ℝ) : EReal) * V (page d x) (off x)
      = ∑ x : Fin 1024, if ok (blk x) then ((a (row (blk x)) (off x) : ℝ) : EReal) * V (row (blk x)) (off x) else 0 := by
  rw [← regroup ok row fun p o => ((a p o : ℝ) : EReal) * V p o]
  refine Finset.sum_congr rfl fun d _ => Finset.sum_congr rfl fun x _ => ?_
  unfold count
  rw [Finset.sum_mul, sum_mul _ _ fun j => mul_nonneg (by split; exacts [zero_le_one, le_rfl]) (ha _ _)]
  refine Finset.sum_congr rfl fun j _ => ?_
  split <;> simp

end Cert.Merge

end
-- ==== Proof.Value.Fold.lean ====
/-
The merge of the 32 blocks of partial results, read at an index: a quotient of two sums over the devices.
-/
module

public import proofs.«01_k».proof.Proof.KernelIdeal.Result
public import proofs.«01_k».proof.Proof.Value.Merge
public import Idealize.ShloMosaic.Lib.Pointwise

@[expose] public section

set_option maxRecDepth 16384

noncomputable section

namespace Cert.DeviceValue

open Idealize.ShloMosaic Cert.KernelIdeal Cert.KernelIdeal.Gen Cert.KernelIdeal.Exchange Cert.Merge

/-- A block's shifts: column 64. -/
def shifts (P : FVec Ideal S8x8x128 .f32) : FVec Ideal S8x8x1 .f32 := extractStridedSlice S8x8x1 ![0, 0, 64] P slices_S8x8x128_o0_0_64_S8x8x1
/-- A block's sums of weights: column 65. -/
def sums (P : FVec Ideal S8x8x128 .f32) : FVec Ideal S8x8x1 .f32 := extractStridedSlice S8x8x1 ![0, 0, 65] P slices_S8x8x128_o0_0_65_S8x8x1
/-- A block's weighted sums of values: the first 64 columns. -/
def accs (P : FVec Ideal S8x8x128 .f32) : FVec Ideal S8x8x64 .f32 := extractStridedSlice S8x8x64 ![0, 0, 0] P slices_S8x8x128_o0_0_0_S8x8x64
/-- The greatest shift of a list of blocks. -/
def top (o : FVec Ideal S8x8x128 .f32) (l : List (FVec Ideal S8x8x128 .f32)) : FVec Ideal S8x8x1 .f32 :=
  l.foldl (fun a P => maximumf a (shifts P)) (shifts o)
/-- The merged sum of weights. -/
def den (M : FVec Ideal S8x8x1 .f32) (l : List (FVec Ideal S8x8x128 .f32)) : FVec Ideal S8x8x1 .f32 :=
  l.foldl (fun a P => addf a (mulf (exp (subf (shifts P) M)) (sums P))) (broadcast S8x8x1 (Scalar.ofBits .f32 0x00000000#32))
/-- The merged sum of values. -/
def num (M : FVec Ideal S8x8x1 .f32) (l : List (FVec Ideal S8x8x128 .f32)) : FVec Ideal S8x8x64 .f32 :=
  l.foldl (fun a P => addf a (mulf (broadcastTo S8x8x64 (exp (subf (shifts P) M)) broadcasts_S8x8x1_S8x8x64) (accs P)))
    (broadcast S8x8x64 (Scalar.ofBits .f32 0x00000000#32))

/-- The kernel's unrolled merge is a fold over the list of blocks. -/
theorem foldOut_eq (o : FVec Ideal S8x8x128 .f32) (b : Fin 31 → FVec Ideal S8x8x128 .f32) :
    foldOut o b = shapeCast S8x1x8x64 (divf (num (top o (List.ofFn b)) (o :: List.ofFn b))
      (broadcastTo S8x8x64 (den (top o (List.ofFn b)) (o :: List.ofFn b)) broadcasts_S8x8x1_S8x8x64)) shapeCasts_S8x8x64_S8x1x8x64 := rfl

/-- A fold of sums of arrays, read at an index. -/
theorem foldl_addf {s : Shape} (g : FVec Ideal S8x8x128 .f32 → FVec Ideal s .f32) (i : s.Idx) :
    ∀ (l : List (FVec Ideal S8x8x128 .f32)) (z : FVec Ideal s .f32), l.foldl (fun a P => addf a (g P)) z i = z i + (l.map fun P => g P i).sum
  | [], z => by simp
  | P :: l, z => by
    rw [List.foldl_cons, foldl_addf g i l, List.map_cons, List.sum_cons, ← add_assoc]
    rfl

theorem den_apply (M : FVec Ideal S8x8x1 .f32) (l : List (FVec Ideal S8x8x128 .f32)) (b h : Fin 8) :
    den M l (ix3 b h 0) = (l.map fun P => Ideal.exp (P (ix3 b h 64) - M (ix3 b h 0)) * P (ix3 b h 65)).sum := by
  unfold den
  rw [foldl_addf fun P => mulf (exp (subf (shifts P) M)) (sums P)]
  pointwise [shifts, sums]

theorem num_apply (M : FVec Ideal S8x8x1 .f32) (l : List (FVec Ideal S8x8x128 .f32)) (b h : Fin 8) (e : Fin 64) :
    num M l (ix3 b h e) = (l.map fun P => Ideal.exp (P (ix3 b h 64) - M (ix3 b h 0)) * P (ix3 b h ⟨e.val, by omega⟩)).sum := by
  unfold num
  rw [foldl_addf fun P => mulf (broadcastTo S8x8x64 (exp (subf (shifts P) M)) broadcasts_S8x8x1_S8x8x64) (accs P)]
  pointwise [shifts, accs]

/-- The greatest shift is a real where all shifts are. -/
theorem top_real (b h : Fin 8) : ∀ (l : List (FVec Ideal S8x8x128 .f32)) (o : FVec Ideal S8x8x128 .f32) (z : FVec Ideal S8x8x1 .f32),
    (∃ r : ℝ, z (ix3 b h 0) = r) → (∀ P ∈ l, ∃ r : ℝ, P (ix3 b h 64) = r) →
    ∃ r : ℝ, l.foldl (fun a P => maximumf a (shifts P)) z (ix3 b h 0) = r
  | [], _, _, hz, _ => hz
  | P :: l, o, z, ⟨r, hz⟩, hl => by
    rw [List.foldl_cons]
    refine top_real b h l o _ ?_ fun Q hQ => hl Q (List.mem_cons_of_mem _ hQ)
    obtain ⟨r', h'⟩ := hl P List.mem_cons_self
    refine ⟨max r r', ?_⟩
    have : maximumf z (shifts P) (ix3 b h 0) = max (z (ix3 b h 0)) (P (ix3 b h 64)) := by pointwise [shifts]
    rw [this, hz, h']
    exact (EReal.coe_strictMono.monotone.map_max).symm

/-- Device `c` and the 31 that reach it are all 32. -/
theorem sum_devices {A : Type*} [AddCommMonoid A] (c : Dev nD) (f : Dev nD → A) : f c + ∑ s : Fin 31, f (bwd c s) = ∑ d, f d := by
  have hinj : Function.Injective (fun o : Option (Fin 31) => o.elim c fun s => bwd c s) := by
    intro x y hxy
    have hc := dev_lt c
    match x, y with
    | none, none => rfl
    | none, some s =>
      have h1 : c.val = (c.val + (31 - s.val)) % 32 := congrArg Fin.val hxy
      have := s.isLt
      omega
    | some s, none =>
      have h1 : (c.val + (31 - s.val)) % 32 = c.val := congrArg Fin.val hxy
      have := s.isLt
      omega
    | some s, some s' =>
      have h1 : (c.val + (31 - s.val)) % 32 = (c.val + (31 - s'.val)) % 32 := congrArg Fin.val hxy
      have := s.isLt
      have := s'.isLt
      exact congrArg some (Fin.ext (by omega))
  have hbij := (Fintype.bijective_iff_injective_and_card _).2 ⟨hinj, by rfl⟩
  rw [← hbij.sum_comp f, Fintype.sum_option]
  rfl

variable (m : (ℓ : Loc nD τ sig) → Buf (Elt Ideal) ℓ) (c : Dev nD)

/-- A sum over the list that device `c` merges is a sum over all devices. -/
theorem sum_list {A : Type*} [AddCommMonoid A] (f : FVec Ideal S8x8x128 .f32 → A) :
    ((ownF m c :: List.ofFn fun s => ownF m (bwd c s)).map f).sum = ∑ d, f (ownF m d) := by
  rw [List.map_cons, List.sum_cons, List.map_ofFn, List.sum_ofFn]
  exact sum_devices c fun d => f (ownF m d)

/-- Device `d`'s partial result of sequence `b` and head `h` in column `j`. -/
def part (d : Dev nD) (b h : Fin 8) (j : Fin 128) : EReal := ownF m d (ix3 b h j)

/-- The result on device `c`: some real shift, and two sums over all the devices' blocks. -/
theorem outAt_apply (b h : Fin 8) (e : Fin 64) (hr : ∀ d : Dev nD, ∃ r : ℝ, part m d b h 64 = r) :
    ∃ M : ℝ, outAt m c (ix4 b 0 h e) = Ideal.div
      (∑ d : Dev nD, Ideal.exp (part m d b h 64 - M) * part m d b h ⟨e.val, by omega⟩)
      (∑ d : Dev nD, Ideal.exp (part m d b h 64 - M) * part m d b h 65) := by
  obtain ⟨M, hM⟩ : ∃ r : ℝ, top (ownF m c) (List.ofFn fun s => ownF m (bwd c s)) (ix3 b h 0) = r := by
    refine top_real b h _ (ownF m c) _ ?_ fun P hP => ?_
    · obtain ⟨r, h'⟩ := hr c
      exact ⟨r, by rw [← h']; pointwise [shifts]; rfl⟩
    · obtain ⟨s, rfl⟩ := (List.mem_ofFn' _ _).1 hP
      exact hr _
  refine ⟨M, ?_⟩
  unfold outAt
  rw [foldOut_eq]
  generalize hT : top (ownF m c) (List.ofFn fun s => ownF m (bwd c s)) = T at hM ⊢
  generalize hl : (ownF m c :: List.ofFn fun s => ownF m (bwd c s)) = l
  pointwise
  rw [num_apply, den_apply, hM, ← hl, sum_list m c, sum_list m c]
  rfl

end Cert.DeviceValue

end
-- ==== Proof.Value.RefRun.lean ====
/-
The reference's run: what it leaves, as one term over its arguments.
-/
module

public import proofs.«01_k».proof.ReferenceIdeal
public import proofs.«01_k».proof.Proof.Gen.ReferenceIdeal
public import Idealize.ShloMosaic.Lib.Claim
public import Idealize.ShloMosaic.Lib.Quiescent
public import Idealize.ShloMosaic.PureOps.Ideal

@[expose] public section

noncomputable section

namespace Cert.RefValue

open Idealize.ShloMosaic Idealize.SL.Sem Cert.ReferenceIdeal Cert.ReferenceIdeal.Gen

variable (q : FVec Ideal S8x1x8x64 .f32) (k v : FVec Ideal S2048x16x8x64 .f32) (t : IVec S8x64 32) (n : IVec S8 32)

/-- The pages a table names, a negative number counted from the end. -/
def pages : IVec S8x64x1 32 :=
  broadcastInDim S8x64x1 ![0, 1] bcast_S8x64_S8x64x1_0_1
    (select (cmpi .slt t (broadcastInDim S8x64 ![] bcast_S_S8x64 (constantI S_ 32 0#32)))
      (addi t (broadcastInDim S8x64 ![] bcast_S_S8x64 (constantI S_ 32 2048#32))) t)
/-- A pool's rows for every sequence, in the order of its table. -/
def rows : FVec Ideal S8x1024x8x64 .f32 :=
  shapeCast S8x1024x8x64 (Host.gather gather_S2048x16x8x64_S8x64x1_S8x64x16x8x64_234_0_n_n_0_2_116864 k (pages t)) shapeCasts_S8x64x16x8x64_S8x1024x8x64
/-- The scaled scores. -/
def raw : FVec Ideal S8x8x1x1024 .f32 :=
  mulf (Host.dotGeneral dot_S8x1x8x64_S8x1024x8x64_S8x8x1x1024_3_3_1_1_02_02 none q (rows k t))
    (broadcastInDim S8x8x1x1024 ![] bcast_S_S8x8x1x1024 (constant S_ .f32 0x3E000000#32))
/-- Sixteen, once per row. -/
def sixteen : IVec S1024 32 := broadcastInDim S1024 ![] bcast_S_S1024 (constantI S_ 32 16#32)
/-- The table's entry a row belongs to. -/
def entry : IVec S1024 32 :=
  select (andi (cmpi .ne (signi (iotaInDim S1024 32 0)) (broadcastInDim S1024 ![] bcast_S_S1024 (signi (constantI S_ 32 16#32))))
      (cmpi .ne (Host.remsi (iotaInDim S1024 32 0) sixteen) (broadcastInDim S1024 ![] bcast_S_S1024 (constantI S_ 32 0#32))))
    (subi (Host.divsi (iotaInDim S1024 32 0) sixteen) (broadcastInDim S1024 ![] bcast_S_S1024 (constantI S_ 32 1#32)))
    (Host.divsi (iotaInDim S1024 32 0) sixteen)
/-- Whether a row lies within its sequence's length. -/
def within : IVec S8x1x1x1024 1 :=
  cmpi .slt
    (broadcastInDim S8x1x1x1024 ![0, 1, 2, 3] bcast_S1x1x1x1024_S8x1x1x1024_0_1_2_3 (broadcastInDim S1x1x1x1024 ![3] bcast_S1024_S1x1x1x1024_3 entry))
    (broadcastInDim S8x1x1x1024 ![0, 1, 2, 3] bcast_S8x1x1x1_S8x1x1x1024_0_1_2_3 (broadcastInDim S8x1x1x1 ![0] bcast_S8_S8x1x1x1_0 n))
/-- The scores, minus infinity beyond the length. -/
def scores : FVec Ideal S8x8x1x1024 .f32 :=
  select (broadcastInDim S8x8x1x1024 ![0, 1, 2, 3] bcast_S8x1x1x1024_S8x8x1x1024_0_1_2_3 (within n)) (raw q k t)
    (broadcastInDim S8x8x1x1024 ![] bcast_S_S8x8x1x1024 (constant S_ .f32 0xFF800000#32))
/-- One number per sequence and head, once per row. -/
def spread (x : FVec Ideal S8x8x1 .f32) : FVec Ideal S8x8x1x1024 .f32 :=
  broadcastInDim S8x8x1x1024 ![0, 1, 2, 3] bcast_S8x8x1x1_S8x8x1x1024_0_1_2_3 (broadcastInDim S8x8x1x1 ![0, 1, 2] bcast_S8x8x1_S8x8x1x1_0_1_2 x)
/-- The exponentials of the scores less their maximum. -/
def powers : FVec Ideal S8x8x1x1024 .f32 :=
  Host.exp (subf (scores q k t n) (spread (Host.reduce FloatOps.maximumf (scores q k t n) (constant S_ .f32 0xFF800000#32) reducesTo_S8x8x1x1024_S8x8x1_d3 h_S_)))
/-- The softmax. -/
def probs : FVec Ideal S8x8x1x1024 .f32 :=
  Host.divf (powers q k t n) (spread (Host.reduceAdd (powers q k t n) (constant S_ .f32 0x00000000#32) reducesTo_S8x8x1x1024_S8x8x1_d3 h_S_))
/-- The attention. -/
def out : FVec Ideal S8x1x8x64 .f32 :=
  transpose S8x1x8x64 [0, 3, 1, 2] (Host.dotGeneral dot_S8x1024x8x64_S8x8x1x1024_S8x8x64x1_1_3_3_2_02_01 none (rows v t) (probs q k t n)) transposes_S8x8x64x1_S8x1x8x64_0_3_1_2

variable (m : (ℓ : Loc nD τ sig) → Buf (Elt Ideal) ℓ) (g : Dev nD → PrngReg)

/-- The reference runs, leaves its arguments alone and its result at `out`. -/
theorem run : θ_run (defs (F := Ideal)) (onTc (τ := τ) (main (F := Ideal))) ⟨m, fun _ => 0, g⟩ (fun r => ∀ c : Dev nD,
    r.2.mem ((c.tc : Thread nD τ).loc main_v37) = out (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  hlo_run
  rfl

/-- The reference has no semaphores. -/
theorem sems (s : MemSt nD τ sig (Elt Ideal)) : s.sem = fun _ => 0 := sem_eq_zero_of_no_sems (by decide) s

end Cert.RefValue

end
-- ==== Proof.Value.RefValue.lean ====
/-
The reference's result at an index: the softmax over the rows that a table gathers within its length.
-/
module

public import proofs.«01_k».proof.Proof.Value.RefRun
public import proofs.«01_k».proof.Proof.Value.Merge
public import Idealize.ShloMosaic.Lib.Pointwise

@[expose] public section

set_option maxRecDepth 16384

noncomputable section

namespace Cert.RefValue

open Idealize.ShloMosaic Cert.ReferenceIdeal Cert.ReferenceIdeal.Gen Cert.Merge

/-- The table's entry `j` lies within the length of sequence `b`. -/
def ok (n : IVec S8 32) (b : Fin 8) (j : Fin 64) : Prop := IntOp.cmpi .slt (BitVec.ofNat 32 j.val) (n (ix1 b)) = 1#1

instance (n : IVec S8 32) (b : Fin 8) : DecidablePred (ok n b) := fun j => by unfold ok; infer_instance

/-- The page that the gather reads for the table's entry `j`: in the pool, whatever the entry is. -/
def row (t : IVec S8x64 32) (b : Fin 8) (j : Fin 64) : Fin 2048 := ⟨min (pages t (ix3 b j 0)).toInt.toNat 2047, by omega⟩

/-- The bits of minus infinity. -/
theorem bits_bot : Ideal.ofBits .f32 0xFF800000#32 = ⊥ := by
  simp [Ideal.ofBits, Ideal.ieee]

variable (q : FVec Ideal S8x1x8x64 .f32) (k v : FVec Ideal S2048x16x8x64 .f32) (t : IVec S8x64 32) (n : IVec S8 32)

/-- The gather reads whole pages. -/
theorem gather_apply (idx : IVec S8x64x1 32) (b : Fin 8) (j : Fin 64) (o : Fin 16) (h : Fin 8) (e : Fin 64) :
    Host.gather gather_S2048x16x8x64_S8x64x1_S8x64x16x8x64_234_0_n_n_0_2_116864 k idx (ix5 b j o h e)
      = k (ix4 ⟨min (idx (ix3 b j 0)).toInt.toNat 2047, by omega⟩ o h e) := by
  unfold Host.gather
  refine congrArg k (funext fun a => Fin.ext ?_)
  have hs : ∀ z, gather_S2048x16x8x64_S8x64x1_S8x64x16x8x64_234_0_n_n_0_2_116864.siIdx (ix5 b j o h e) z = ix3 b j 0 := fun z => by
    funext a
    match a with
    | ⟨0, _⟩ => rfl
    | ⟨1, _⟩ => rfl
    | ⟨2, _⟩ => exact Subsingleton.elim (α := Fin 1) _ _
  match a with
  | ⟨0, h0⟩ =>
    have hm : (⟨0, h0⟩ : Fin S2048x16x8x64.rank) ∈ gather_S2048x16x8x64_S8x64x1_S8x64x16x8x64_234_0_n_n_0_2_116864.startIndexMap :=
      List.mem_singleton.2 rfl
    show GatherDims.start _ _ _ _ + 0 + 0 = _
    unfold GatherDims.start
    rw [dif_pos hm, hs]
    rfl
  | ⟨1, _⟩ => exact Nat.zero_add _
  | ⟨2, _⟩ => exact Nat.zero_add _
  | ⟨3, _⟩ => exact Nat.zero_add _

/-- A gathered row is a row of the page that the table names. -/
theorem rows_apply (b : Fin 8) (x : Fin 1024) (h : Fin 8) (e : Fin 64) :
    rows k t (ix4 b x h e) = k (ix4 (row t b (blk x)) (off x) h e) := by
  pointwise [rows]
  exact gather_apply k (pages t) b (blk x) (off x) h e

/-- The table's entry a row belongs to is its number over sixteen. -/
theorem entry_apply (x : Fin 1024) : entry (ix1 x) = BitVec.ofNat 32 (blk x).val := by
  pointwise [entry, sixteen]
  revert x
  decide +kernel

/-- The scaled score of a query and a key. -/
def score (b h : Fin 8) (p : Fin 2048) (o : Fin 16) : EReal :=
  (∑ e : Fin 64, q (ix4 b 0 h e) * k (ix4 p o h e)) * Ideal.ofBits .f32 0x3E000000#32

/-- The scores: the scaled score within the length, minus infinity beyond it. -/
theorem scores_apply (b h : Fin 8) (x : Fin 1024) :
    scores q k t n (ix4 b h 0 x) = if ok n b (blk x) then score q k b h (row t b (blk x)) (off x) else ⊥ := by
  pointwise [scores, within]
  rw [entry_apply, bits_bot]
  have hr : raw q k t (ix4 b h 0 x) = score q k b h (row t b (blk x)) (off x) := by
    pointwise [raw, score]
    simp only [rows_apply]
  rw [hr]
  rfl

/-- The reference's result at an index. -/
theorem out_apply (b h : Fin 8) (e : Fin 64) (σ : Fin 2048 → Fin 16 → ℝ) (hσ : ∀ p o, score q k b h p o = (σ p o : EReal)) (h₀ : ok n b 0) :
    out q k v t n (ix4 b 0 h e) = ∑ x : Fin 1024, if ok n b (blk x) then
      ((Real.exp (σ (row t b (blk x)) (off x)) / ∑ y : Fin 1024, (if ok n b (blk y) then Real.exp (σ (row t b (blk y)) (off y)) else 0) : ℝ) : EReal)
        * v (ix4 (row t b (blk x)) (off x) h e) else 0 := by
  have hrow := softmax_row (fun x : Fin 1024 => scores q k t n (ix4 b h 0 x)) (fun x : Fin 1024 => v (ix4 (row t b (blk x)) (off x) h e))
    (fun x => ok n b (blk x)) (fun x => σ (row t b (blk x)) (off x)) (fun x => by rw [scores_apply, hσ]) 0 h₀
  refine Eq.trans ?_ hrow
  pointwise [out, probs, powers, spread]
  simp only [rows_apply, bits_bot]

end Cert.RefValue

end
-- ==== Proof.Value.Device.lean ====
/-
One device's block of partial results, read at an index.
-/
module

public import proofs.«01_k».proof.Proof.Value.Fold
public import proofs.«01_k».proof.Proof.Value.RefValue

@[expose] public section

set_option maxRecDepth 16384

noncomputable section

namespace Cert.DeviceValue

open Idealize.ShloMosaic Cert.KernelIdeal Cert.KernelIdeal.Gen Cert.KernelIdeal.Exchange Cert.Merge

section Head
variable (w : FVec Ideal S8x1024 .f32) (q : FVec Ideal S8x1x1x64 .f32) (k v : FVec Ideal S64x16x1x64 .f32) (b : Fin 8)

/-- The score of a key of the device, the mask's stand-in for a key that nobody names. -/
def masked (x : Fin 1024) : EReal :=
  if 0 < w (ix2 b x) then (∑ e : Fin 64, q (ix4 b 0 0 e) * k (ix4 (blk x) (off x) 0 e)) * Ideal.ofBits .f32 0x3E000000#32
  else Ideal.ofBits .f32 0xF149F2CA#32
/-- The greatest of them. -/
def most : EReal := Finset.univ.fold max (⊥ : EReal) (masked w q k b)

theorem head_max : k0_pay15 w q k v (ix3 b 0 64) = most w q k b := by
  pointwise [k0_pay15]
  rw [RefValue.bits_bot]
  rfl

theorem head_sum : k0_pay15 w q k v (ix3 b 0 65) = ∑ x, w (ix2 b x) * Ideal.exp (masked w q k b x - most w q k b) := by
  pointwise [k0_pay15]
  rw [RefValue.bits_bot]
  rfl

theorem head_acc (e : Fin 64) : k0_pay15 w q k v (ix3 b 0 ⟨e.val, by omega⟩)
    = ∑ x, w (ix2 b x) * Ideal.exp (masked w q k b x - most w q k b) * v (ix4 (blk x) (off x) 0 e) := by
  pointwise [k0_pay15]
  rw [RefValue.bits_bot]
  rfl

end Head

variable (m : (ℓ : Loc nD τ sig) → Buf (Elt Ideal) ℓ) (c : Dev nD)

/-- The key's page as the kernel computes it. -/
theorem key_page (x : Fin 1024) :
    Scalar.select
      (IntOp.andi
        (IntOp.cmpi CmpIPredicate.ne
          (IntOp.subi (BitVec.setWidth 32 (IntOp.cmpi CmpIPredicate.sgt (BitVec.ofNat 32 x.val) 0#32))
            (BitVec.setWidth 32 (IntOp.cmpi CmpIPredicate.slt (BitVec.ofNat 32 x.val) 0#32)))
          (Scalar.subi (Scalar.extui (Scalar.cmpi CmpIPredicate.sgt 16#32 0#32))
            (Scalar.extui (Scalar.cmpi CmpIPredicate.slt 16#32 0#32))))
        (IntOp.cmpi CmpIPredicate.ne (IntOp.remsi ArithUnit.vector (BitVec.ofNat 32 x.val) 16#32) 0#32))
      (IntOp.subi (IntOp.divsi ArithUnit.vector (BitVec.ofNat 32 x.val) 16#32) 1#32)
      (IntOp.divsi ArithUnit.vector (BitVec.ofNat 32 x.val) 16#32) = BitVec.ofNat 32 (x.val / 16) := by
  revert x
  decide +kernel

/-- The device's first page as the kernel computes it. -/
theorem first_page : Scalar.muli (place c) 64#32 = BitVec.ofNat 32 (c.val * 64) := by
  revert c
  decide +kernel

/-- Head `h`'s part of the queries. -/
theorem qHead_apply (b h : Fin 8) (e : Fin 64) : qHead m c h (ix4 b 0 0 e) = qAt m c (ix4 b 0 h e) := by
  unfold qHead
  rw [View.readAt_eq_ld]
  pointwise
  rfl

theorem kHead_apply (p : Fin 64) (o : Fin 16) (h : Fin 8) (e : Fin 64) : kHead m c h (ix4 p o 0 e) = kAt m c (ix4 p o h e) := by
  unfold kHead
  rw [View.readAt_eq_ld]
  pointwise
  rfl

theorem vHead_apply (p : Fin 64) (o : Fin 16) (h : Fin 8) (e : Fin 64) : vHead m c h (ix4 p o 0 e) = vAt m c (ix4 p o h e) := by
  unfold vHead
  rw [View.readAt_eq_ld]
  pointwise
  rfl

/-- The block of partial results holds head `h`'s slab at `h`. -/
theorem part_eq (b h : Fin 8) (j : Fin 128) : part m c b h j = headOut m c h (ix3 b 0 j) := by
  unfold part ownF
  show storeSlab h _ (headOut m c h) (ix3 b h j) = _
  unfold storeSlab
  have e : ix3 b h j = (ownM.access (slabR h) : View sig .tc _ _ _).emb (ix3 b 0 j) := by
    funext a
    refine Fin.ext ?_
    match a with
    | ⟨0, _⟩ => show b.val = 0 + 1 * b.val; omega
    | ⟨1, _⟩ => show h.val = h.val + 1 * 0; omega
    | ⟨2, _⟩ => show j.val = 0 + 1 * j.val; omega
  rw [e, View.write_emb_of_mem _ _ (Finset.mem_univ _)]
  rfl

/-- One entry's vote for a key, as the kernel converts it. -/
theorem vote (p : Prop) [Decidable p] (z : BitVec 1) (h : z = 1#1 ↔ p) :
    (FloatOps.sitofp FTy.f32 (BitVec.setWidth 32 z) : Ideal .f32) = ((if p then 1 else 0 : ℝ) : EReal) := by
  rcases BitVec.eq_zero_or_eq_one z with rfl | rfl
  · rw [if_neg fun hp => absurd (h.2 hp) (by decide)]
    show (((BitVec.setWidth 32 0#1).toInt : ℝ) : EReal) = _
    norm_num
  · rw [if_pos (h.1 rfl)]
    show (((BitVec.setWidth 32 1#1).toInt : ℝ) : EReal) = _
    norm_num

/-- Two bits' conjunction. -/
theorem both (y z : BitVec 1) : IntOp.andi y z = 1#1 ↔ y = 1#1 ∧ z = 1#1 := by
  revert y z
  decide

/-- How often a key is named, as the kernel counts. -/
theorem weights_apply (b : Fin 8) (x : Fin 1024) (t : IVec S8x64 32) (n : IVec S8 32) (ht : tAt m c = t) (hn : nAt m c = n)
    (row : Fin 64 → Fin 2048) (hrow : ∀ j, RefValue.ok n b j → t (ix2 b j) = BitVec.ofNat 32 (row j).val) :
    weights m c (ix2 b x) = ((Merge.count (RefValue.ok n b) row c x : ℝ) : EReal) := by
  unfold Merge.count
  rw [coe_sum]
  pointwise [weights, k0_pay7, k0_pay2, k0_pay3, k0_pay4, k0_pay5, k0_pay6]
  refine Finset.sum_congr rfl fun j _ => ?_
  rw [key_page, first_page, ht, hn]
  refine vote _ _ ((both _ _).trans ?_)
  rw [and_comm]
  refine and_congr_right fun ho => ?_
  rw [hrow j ho]
  have hx := x.isLt
  have hc : c.val < 32 := c.isLt
  have hr := (row j).isLt
  show BitVec.ofBool (BitVec.ofNat 32 (row j).val == BitVec.ofNat 32 (x.val / 16) + BitVec.ofNat 32 (c.val * 64)) = 1#1 ↔ _
  rw [← BitVec.ofNat_add, Fin.ext_iff]
  show _ ↔ (row j).val = c.val * 64 + x.val / 16
  by_cases e : (row j).val = c.val * 64 + x.val / 16
  · rw [e, add_comm]
    simp
  · have ne : BitVec.ofNat 32 (row j).val ≠ BitVec.ofNat 32 (x.val / 16 + c.val * 64) := fun h => by
      have h := congrArg BitVec.toNat h
      rw [BitVec.toNat_ofNat, BitVec.toNat_ofNat, Nat.mod_eq_of_lt (by omega), Nat.mod_eq_of_lt (by omega)] at h
      omega
    rw [beq_eq_false_iff_ne.2 ne]
    exact ⟨fun h => absurd h (by decide), fun h => absurd h e⟩

end Cert.DeviceValue

end
-- ==== Proof.Value.Equal.lean ====
/-
On what the preconditions allow, the merged result of every device is the reference's.
-/
module

public import proofs.«01_k».proof.Defs
public import proofs.«01_k».proof.Proof.Value.Device

@[expose] public section

set_option maxRecDepth 16384

noncomputable section

namespace Cert.Equal

open Idealize.ShloMosaic Cert.Merge Cert.DeviceValue
open Cert.KernelIdeal.Exchange (qAt kAt vAt tAt nAt qHead kHead vHead weights headOut outAt)
open Cert.KernelIdeal (nD τ sig S8x1x8x64 S64x16x8x64 S8x64 S8)

/-- The conditions' shapes fit, over the devices' arrays. -/
instance facts : Cert.Pre_served_KernelIdeal.Facts where
  bcast_S64_S1x64_1 := by decide
  bcast_S8_S8x1_0 := by decide
  bcast_S1x64_S8x64_0_1 := by decide
  bcast_S8x1_S8x64_0_1 := by decide
  bcast_S_S8x1x8x64 := by decide
  bcast_S_S64x16x8x64 := by decide
  bcast_S_S8x64 := by decide
  bcast_S_S8 := by decide

/-- The conditions' shapes fit, over the whole arrays. -/
instance factsRef : Cert.Pre_served_ReferenceIdeal.Facts where
  bcast_S64_S1x64_1 := by decide
  bcast_S8_S8x1_0 := by decide
  bcast_S1x64_S8x64_0_1 := by decide
  bcast_S8x1_S8x64_0_1 := by decide
  bcast_S_S8x1x8x64 := by decide
  bcast_S_S2048x16x8x64 := by decide
  bcast_S_S8x64 := by decide
  bcast_S_S8 := by decide

/-- What lies strictly below infinity in magnitude is a real. -/
theorem real_of_lt (x : EReal) (h : max x (-x) < ⊤) : ∃ r : ℝ, x = r := by
  have h1 : x ≠ ⊤ := fun e => by rw [e] at h; simp at h
  have h2 : x ≠ ⊥ := fun e => by rw [e] at h; simp at h
  exact ⟨_, (EReal.coe_toReal h1 h2).symm⟩

/-- The bits of infinity. -/
theorem bits_top : Ideal.ofBits .f32 0x7F800000#32 = ⊤ := by
  simp [Ideal.ofBits, Ideal.ieee]

/-- A bit that says that a proposition holds. -/
theorem of_bit (p : Prop) [Decidable p] (h : BitVec.ofBool (decide p) = 1#1) : p := by
  by_contra hp
  rw [decide_eq_false hp] at h
  exact absurd h (by decide)

/-- A word between zero and the pool's pages, signed, is one unsigned. -/
theorem word_in (x : BitVec 32) (h1 : IntOp.cmpi .sge x 0#32 = 1#1) (h2 : IntOp.cmpi .slt x 2048#32 = 1#1) : x.toNat < 2048 := by
  have h1 : (0#32).sle x = true := by
    by_contra h
    rw [Bool.not_eq_true] at h
    exact absurd (show BitVec.ofBool ((0#32).sle x) = 1#1 from h1) (by rw [h]; decide)
  have h2 : x.slt 2048#32 = true := by
    by_contra h
    rw [Bool.not_eq_true] at h
    exact absurd (show BitVec.ofBool (x.slt 2048#32) = 1#1 from h2) (by rw [h]; decide)
  rw [BitVec.sle_iff_toInt_le] at h1
  rw [BitVec.slt_iff_toInt_lt] at h2
  have a : (0#32).toInt = 0 := by decide
  have b : (2048#32).toInt = 2048 := by decide
  rw [a] at h1
  rw [b] at h2
  have := x.isLt
  rw [BitVec.toInt_eq_toNat_cond] at h1 h2
  split at h1 <;> omega

/-- A word from one on, signed, is above zero. -/
theorem word_pos (x : BitVec 32) (h : IntOp.cmpi .sge x 1#32 = 1#1) : IntOp.cmpi .slt 0#32 x = 1#1 := by
  have h : (1#32).sle x = true := by
    by_contra h'
    rw [Bool.not_eq_true] at h'
    exact absurd (show BitVec.ofBool ((1#32).sle x) = 1#1 from h) (by rw [h']; decide)
  have h' : (0#32).slt x = true := by
    rw [BitVec.sle_iff_toInt_le] at h
    rw [BitVec.slt_iff_toInt_lt]
    have a : (0#32).toInt = 0 := by decide
    have b : (1#32).toInt = 1 := by decide
    rw [b] at h
    rw [a]
    omega
  show BitVec.ofBool ((0#32).slt x) = 1#1
  rw [h']
  rfl

/-- A word within the pool is not negative. -/
theorem word_nonneg (x : BitVec 32) (h : x.toNat < 2048) : IntOp.cmpi .slt x 0#32 = 0#1 := by
  have h' : x.slt 0#32 = false := by
    by_contra h'
    rw [Bool.not_eq_false, BitVec.slt_iff_toInt_lt, BitVec.toInt_eq_toNat_of_lt (by omega)] at h'
    have a : (0#32).toInt = 0 := by decide
    rw [a] at h'
    omega
  show BitVec.ofBool (x.slt 0#32) = 0#1
  rw [h']
  rfl

section Decode
variable (q : FVec Ideal S8x1x8x64 .f32) (k v : FVec Ideal S64x16x8x64 .f32) (t : IVec S8x64 32) (n : IVec S8 32)

/-- The first condition: every query is a real. -/
theorem query_real (h : (Cert.Pre_served_KernelIdeal.fn (F := Ideal) q k v t n).1 = fun _ => 1#1) (b h' : Fin 8) (e : Fin 64) :
    ∃ r : ℝ, q (ix4 b 0 h' e) = r := by
  have h := congrFun h (ix4 b 0 h' e)
  unfold Cert.Pre_served_KernelIdeal.fn Cert.Pre_served_KernelIdeal.fn_part1 at h
  refine real_of_lt _ ?_
  rw [← bits_top]
  exact of_bit _ h

/-- The second condition: every key is a real. -/
theorem key_real (h : (Cert.Pre_served_KernelIdeal.fn (F := Ideal) q k v t n).2.1 = fun _ => 1#1) (p : Fin 64) (o : Fin 16) (h' : Fin 8) (e : Fin 64) :
    ∃ r : ℝ, k (ix4 p o h' e) = r := by
  have h := congrFun h (ix4 p o h' e)
  unfold Cert.Pre_served_KernelIdeal.fn Cert.Pre_served_KernelIdeal.fn_part1 at h
  refine real_of_lt _ ?_
  rw [← bits_top]
  exact of_bit _ h

/-- The third condition: a page that is named is in the pool. -/
theorem in_pool (h : (Cert.Pre_served_KernelIdeal.fn (F := Ideal) q k v t n).2.2.1 = fun _ => 1#1) (b : Fin 8) (j : Fin 64) (hj : RefValue.ok n b j) :
    (t (ix2 b j)).toNat < 2048 := by
  have h := congrFun h (ix2 b j)
  unfold RefValue.ok at hj
  have e : (Cert.Pre_served_KernelIdeal.fn (F := Ideal) q k v t n).2.2.1 (ix2 b j)
    = IntOp.ori (~~~(IntOp.cmpi .slt (BitVec.ofNat 32 j.val) (n (ix1 b)))) (IntOp.andi (IntOp.cmpi .sge (t (ix2 b j)) 0#32) (IntOp.cmpi .slt (t (ix2 b j)) 2048#32)) := by
    unfold Cert.Pre_served_KernelIdeal.fn Cert.Pre_served_KernelIdeal.fn_part1
    pointwise
  rw [e, hj] at h
  have h : IntOp.andi (IntOp.cmpi .sge (t (ix2 b j)) 0#32) (IntOp.cmpi .slt (t (ix2 b j)) 2048#32) = 1#1 := by
    revert h
    generalize IntOp.andi (IntOp.cmpi .sge (t (ix2 b j)) 0#32) (IntOp.cmpi .slt (t (ix2 b j)) 2048#32) = z
    revert z
    decide
  obtain ⟨h1, h2⟩ := (both _ _).1 h
  exact word_in _ h1 h2

/-- The fourth condition: the first page of every sequence is named. -/
theorem first_ok (h : (Cert.Pre_served_KernelIdeal.fn (F := Ideal) q k v t n).2.2.2 = fun _ => 1#1) (b : Fin 8) : RefValue.ok n b 0 := by
  have h := congrFun h (ix1 b)
  have e : (Cert.Pre_served_KernelIdeal.fn (F := Ideal) q k v t n).2.2.2 (ix1 b) = IntOp.cmpi .sge (n (ix1 b)) 1#32 := by
    unfold Cert.Pre_served_KernelIdeal.fn Cert.Pre_served_KernelIdeal.fn_part1
    pointwise
  rw [e] at h
  exact word_pos _ h

/-- A page in the pool is the row that the gather reads. -/
theorem row_of_pool (b : Fin 8) (j : Fin 64) (h : (t (ix2 b j)).toNat < 2048) : t (ix2 b j) = BitVec.ofNat 32 (RefValue.row t b j).val := by
  have e : RefValue.pages t (ix3 b j 0) = t (ix2 b j) := by
    pointwise [RefValue.pages]
    rw [word_nonneg _ h]
    rfl
  have e' : (RefValue.row t b j).val = (t (ix2 b j)).toNat := by
    unfold RefValue.row
    show min (RefValue.pages t (ix3 b j 0)).toInt.toNat 2047 = _
    rw [e, BitVec.toInt_eq_toNat_of_lt (by omega)]
    omega
  rw [e', BitVec.ofNat_toNat, BitVec.setWidth_eq]

end Decode

/-- Device `c`'s keys are its pages of the pool. -/
theorem block_page {A : Type} (K : Cert.ReferenceIdeal.S2048x16x8x64.Idx → A) (c : Dev nD) (x : Fin 1024) (h : Fin 8) (e : Fin 64) :
    Layout.block ⟨4, ![64, 16, 8, 64]⟩ ⟨4, ![2048, 16, 8, 64]⟩ 0 32 c K (by decide) (ix4 (blk x) (off x) h e) = K (ix4 (page c x) (off x) h e) := by
  rw [Layout.block_apply]
  refine congrArg K (funext fun a => Fin.ext ?_)
  match a with
  | ⟨0, _⟩ => rfl
  | ⟨1, _⟩ => rfl
  | ⟨2, _⟩ => rfl
  | ⟨3, _⟩ => rfl

/-- The mask's stand-in is a real. -/
theorem neg_real : ∃ r : ℝ, Ideal.ofBits .f32 0xF149F2CA#32 = r := by
  simp only [Ideal.ofBits, Ideal.ieee]
  rw [if_neg (by decide), if_neg (by decide)]
  exact ⟨_, rfl⟩

/-- The scale is a real. -/
theorem scale_real : ∃ r : ℝ, Ideal.ofBits .f32 0x3E000000#32 = r := by
  simp only [Ideal.ofBits, Ideal.ieee]
  rw [if_neg (by decide), if_neg (by decide)]
  exact ⟨_, rfl⟩

section Main
variable (m : (ℓ : Loc nD τ sig) → Buf (Elt Ideal) ℓ)
  (q : FVec Ideal Cert.ReferenceIdeal.S8x1x8x64 .f32) (k v : FVec Ideal Cert.ReferenceIdeal.S2048x16x8x64 .f32) (t : IVec S8x64 32) (n : IVec S8 32)

/-- The devices' arguments are the reference's: the pools by blocks, the rest whole. -/
structure Same : Prop where
  q : ∀ c, qAt m c = q
  k : ∀ c, kAt m c = Layout.block ⟨4, ![64, 16, 8, 64]⟩ ⟨4, ![2048, 16, 8, 64]⟩ 0 32 c k
  v : ∀ c, vAt m c = Layout.block ⟨4, ![64, 16, 8, 64]⟩ ⟨4, ![2048, 16, 8, 64]⟩ 0 32 c v
  t : ∀ c, tAt m c = t
  n : ∀ c, nAt m c = n

variable {m q k v t n}

/-- The two results agree at every index. -/
theorem equal_at (s : Same m q k v t n) (b h : Fin 8) (e : Fin 64)
    (hσ : ∃ σ : Fin 2048 → Fin 16 → ℝ, ∀ p o, RefValue.score q k b h p o = (σ p o : EReal))
    (h₀ : RefValue.ok n b 0) (ht : ∀ j, RefValue.ok n b j → t (ix2 b j) = BitVec.ofNat 32 (RefValue.row t b j).val) (c : Dev nD) :
    outAt m c (ix4 b 0 h e) = RefValue.out q k v t n (ix4 b 0 h e) := by
  obtain ⟨σ, hσ⟩ := hσ
  obtain ⟨ν, hν⟩ := neg_real
  let w : Dev nD → Fin 1024 → ℝ := fun d x => Merge.count (RefValue.ok n b) (RefValue.row t b) d x
  have hw : ∀ d x, weights m d (ix2 b x) = (w d x : EReal) := fun d x => weights_apply m d b x t n (s.t d) (s.n d) _ ht
  have hmask : ∀ d x, masked (weights m d) (qHead m d h) (kHead m d h) b x
      = if 0 < (w d x : EReal) then (σ (page d x) (off x) : EReal) else (ν : EReal) := fun d x => by
    unfold masked
    rw [hw, hν, ← hσ]
    unfold RefValue.score
    simp only [qHead_apply, kHead_apply, s.q, s.k, block_page]
  have hmost : ∀ d, ∃ μ : ℝ, most (weights m d) (qHead m d h) (kHead m d h) b = μ := fun d => by
    refine fold_max _ (fun x => ?_) 0 ?_
    · rw [hmask]; split <;> exact EReal.coe_ne_top _
    · rw [hmask]; split <;> exact EReal.coe_ne_bot _
  choose μ hμ using hmost
  have hmax : ∀ d, part m d b h 64 = μ d := fun d => by rw [part_eq, ← hμ d]; exact head_max _ _ _ _ b
  obtain ⟨M, hM⟩ := outAt_apply m c b h e fun d => ⟨μ d, hmax d⟩
  rw [hM, RefValue.out_apply q k v t n b h e σ hσ h₀]
  have hsum : ∀ d, part m d b h 65 = ∑ x, (w d x : EReal) * Ideal.exp ((if 0 < (w d x : EReal) then (σ (page d x) (off x) : EReal) else (ν : EReal)) - (μ d : EReal)) := fun d => by
    rw [part_eq]
    refine (head_sum _ _ _ _ b).trans (Finset.sum_congr rfl fun x _ => ?_)
    rw [hw, hmask, hμ]
  have hacc : ∀ d, part m d b h ⟨e.val, by omega⟩ = ∑ x, (w d x : EReal) * Ideal.exp ((if 0 < (w d x : EReal) then (σ (page d x) (off x) : EReal) else (ν : EReal)) - (μ d : EReal)) * v (ix4 (page d x) (off x) h e) := fun d => by
    rw [part_eq]
    refine (head_acc _ _ _ _ b e).trans (Finset.sum_congr rfl fun x _ => ?_)
    rw [hw, hmask, hμ, vHead_apply, s.v, block_page]
  simp only [hmax, hsum, hacc]
  have hL : ∑ d, ∑ x, w d x * Real.exp (σ (page d x) (off x))
      = ∑ x, if RefValue.ok n b (blk x) then Real.exp (σ (RefValue.row t b (blk x)) (off x)) else 0 :=
    regroup_real (RefValue.ok n b) (RefValue.row t b) fun p o => Real.exp (σ p o)
  have hpos : 0 < ∑ x, if RefValue.ok n b (blk x) then Real.exp (σ (RefValue.row t b (blk x)) (off x)) else 0 := by
    refine Finset.sum_pos' (fun x _ => ?_) ⟨0, Finset.mem_univ _, ?_⟩
    · split; exacts [(Real.exp_pos _).le, le_rfl]
    · have : RefValue.ok n b (blk 0) := h₀
      rw [if_pos this]; exact Real.exp_pos _
  rw [merged w (fun d x => σ (page d x) (off x)) (fun d x => v (ix4 (page d x) (off x) h e)) ν M μ
    (fun d x => count_nonneg _ _ d x) (by rw [hL]; exact hpos.ne'), hL]
  exact regroup_ext (RefValue.ok n b) (RefValue.row t b) (fun p o => Real.exp (σ p o) / _)
    (fun p o => div_nonneg (Real.exp_pos _).le hpos.le) fun p o => v (ix4 p o h e)

/-- Reals have a real score. -/
theorem score_real (b h : Fin 8) (hq : ∀ e, ∃ r : ℝ, q (ix4 b 0 h e) = r) (hk : ∀ p o e, ∃ r : ℝ, k (ix4 p o h e) = r) :
    ∃ σ : Fin 2048 → Fin 16 → ℝ, ∀ p o, RefValue.score q k b h p o = (σ p o : EReal) := by
  choose x hx using hq
  choose y hy using hk
  obtain ⟨r, hr⟩ := scale_real
  refine ⟨fun p o => (∑ e, x e * y p o e) * r, fun p o => ?_⟩
  unfold RefValue.score
  rw [hr, EReal.coe_mul, coe_sum]
  refine congrArg (· * (r : EReal)) (Finset.sum_congr rfl fun e _ => ?_)
  rw [hx, hy, EReal.coe_mul]

/-- A key of the pool is a key of the device that holds its page. -/
theorem key_of_block (own : Dev nD → FVec Ideal S64x16x8x64 .f32)
    (hown : ∀ c, own c = Layout.block ⟨4, ![64, 16, 8, 64]⟩ ⟨4, ![2048, 16, 8, 64]⟩ 0 32 c k) (hk : ∀ c p o h e, ∃ r : ℝ, own c (ix4 p o h e) = r)
    (p : Fin 2048) (o : Fin 16) (h : Fin 8) (e : Fin 64) : ∃ r : ℝ, k (ix4 p o h e) = r := by
  obtain ⟨r, hr⟩ := hk ⟨p.val / 64, by have := p.isLt; show _ < 32; omega⟩ ⟨p.val % 64, by omega⟩ o h e
  refine ⟨r, hr ▸ ?_⟩
  rw [hown, Layout.block_apply]
  refine congrArg k (funext fun a => Fin.ext ?_)
  match a with
  | ⟨0, _⟩ => exact (Nat.div_add_mod' p.val 64).symm
  | ⟨1, _⟩ => rfl
  | ⟨2, _⟩ => rfl
  | ⟨3, _⟩ => rfl

/-- The merged result of every device is the reference's. -/
theorem equal (s : Same m q k v t n) (pre : Cert.Pre_KernelIdeal_served_KernelIdeal m) (c : Dev nD) : outAt m c = RefValue.out q k v t n := by
  have hp := fun d => pre d
  simp only [← Cert.KernelIdeal.Exchange.qAt_eq, ← Cert.KernelIdeal.Exchange.kAt_eq, ← Cert.KernelIdeal.Exchange.vAt_eq,
    ← Cert.KernelIdeal.Exchange.tAt_eq, ← Cert.KernelIdeal.Exchange.nAt_eq] at hp
  have hq : ∀ b h e, ∃ r : ℝ, q (ix4 b 0 h e) = r := fun b h e => by
    rw [← s.q c]; exact query_real _ _ _ _ _ (hp c).1 b h e
  have hk := key_of_block (kAt m) s.k fun d => key_real _ _ _ _ _ (hp d).2.1
  have ht : ∀ b j, RefValue.ok n b j → (t (ix2 b j)).toNat < 2048 := fun b j hj => by
    rw [← s.t c]; exact in_pool _ _ _ _ _ (hp c).2.2.1 b j (by rw [s.n c]; exact hj)
  have hn : ∀ b, RefValue.ok n b 0 := fun b => by
    rw [← s.n c]; exact first_ok _ _ _ _ _ (hp c).2.2.2 b
  funext i
  have hi : i = ix4 (i 0) 0 (i 2) (i 3) := by
    funext a
    match a with
    | ⟨0, _⟩ => rfl
    | ⟨1, _⟩ => exact Subsingleton.elim (α := Fin 1) _ _
    | ⟨2, _⟩ => rfl
    | ⟨3, _⟩ => rfl
  rw [hi]
  exact equal_at s (i 0) (i 2) (i 3) (score_real (i 0) (i 2) (hq (i 0) (i 2)) fun p o e => hk p o (i 2) e) (hn (i 0))
    (fun j hj => row_of_pool t (i 0) j (ht (i 0) j hj)) c

end Main

end Cert.Equal

end
-- ==== Proof.lean ====
/-
The claims: the kernel's program and its idealized text run and leave their arguments alone, the reference likewise; over the
reals the kernel's result is the reference's.
-/
module

public import proofs.«01_k».proof.Defs
public import proofs.«01_k».proof.Proof.Kernel.Result
public import proofs.«01_k».proof.Proof.KernelIdeal.Result
public import proofs.«01_k».proof.Proof.Value.Equal
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The kernel as printed. -/
theorem frame_kernel : quiescent_Kernel (hKernel := Cert.Kernel.Gen.facts) := fun m g _ =>
  θ_run_mono (Cert.Kernel.Exchange.run_main m g) fun _ h => ⟨fun c => Cert.Kernel.Exchange.args_of_QC m g h.1 c, h.2⟩

/-- The kernel idealized. -/
theorem frame_kernelIdeal : quiescent_KernelIdeal (hKernelIdeal := Cert.KernelIdeal.Gen.facts) := fun m g _ =>
  θ_run_mono (Cert.KernelIdeal.Exchange.run_main m g) fun _ h => ⟨fun c => Cert.KernelIdeal.Exchange.args_of_QC m g h.1 c, h.2⟩

/-- The reference. -/
theorem frame_reference : quiescent_ReferenceIdeal (hReferenceIdeal := Cert.ReferenceIdeal.Gen.facts) := by
  intro m g _
  exact θ_run_mono (Cert.RefValue.run m g) fun r h => ⟨fun c => (h c).2, Cert.RefValue.sems r.2⟩

/-- The kernel's result is the reference's, on what the preconditions allow. -/
theorem algebraic : algebraic_KernelIdeal_ReferenceIdeal_pre_served_KernelIdeal (hKernelIdeal := Cert.KernelIdeal.Gen.facts)
    (hReferenceIdeal := Cert.ReferenceIdeal.Gen.facts) (hPre_served_KernelIdeal := Cert.Equal.facts) := by
  intro m g m' g' pre same
  refine ⟨Cert.RefValue.out _ _ _ _ _, θ_run_mono (Cert.KernelIdeal.Exchange.run_main m g) fun r h c => ?_,
    θ_run_mono (Cert.RefValue.run m' g') fun r h => h 0⟩
  refine ⟨(Cert.KernelIdeal.Exchange.result_of_QC m g h.1 c).trans (Cert.Equal.equal ⟨fun d => ?_, fun d => ?_, fun d => ?_, fun d => ?_, fun d => ?_⟩ pre c),
    Cert.KernelIdeal.Exchange.args_of_QC m g h.1 c⟩
  · exact (Cert.KernelIdeal.Exchange.qAt_eq m d).trans (same d).1
  · exact (Cert.KernelIdeal.Exchange.kAt_eq m d).trans (same d).2.1
  · exact (Cert.KernelIdeal.Exchange.vAt_eq m d).trans (same d).2.2.1
  · exact (Cert.KernelIdeal.Exchange.tAt_eq m d).trans (same d).2.2.2.1
  · exact (Cert.KernelIdeal.Exchange.nAt_eq m d).trans (same d).2.2.2.2

/-- All of them together. -/
theorem claim : Cert.Claim := ⟨Cert.Kernel.Gen.facts, Cert.KernelIdeal.Gen.facts, Cert.ReferenceIdeal.Gen.facts, Cert.Equal.facts, Cert.Equal.factsRef,
  frame_kernel, frame_kernelIdeal, fun m g _ => frame_kernelIdeal m g trivial, frame_reference, fun m g _ => frame_reference m g trivial, trivial, algebraic⟩

end Cert.Proof

end
